-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x256 : Shape := ⟨2, ![256, 256]⟩
abbrev S4x512x256 : Shape := ⟨3, ![4, 512, 256]⟩
abbrev S4x8 : Shape := ⟨2, ![4, 8]⟩
abbrev S_ : Shape := ⟨0, ![]⟩
abbrev S1x1 : Shape := ⟨2, ![1, 1]⟩
abbrev S1x64x256 : Shape := ⟨3, ![1, 64, 256]⟩
abbrev S64x256 : Shape := ⟨2, ![64, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S512x256, .f32⟩
  | .local _ .vmem, ⟨0, _⟩ => ⟨S512x256, .f32⟩
  | .local _ .vmem, ⟨1, _⟩ => ⟨S256x256, .f32⟩
  | .local _ .vmem, ⟨2, _⟩ => ⟨S512x256, .f32⟩
  | .local _ .vmem, ⟨3, _⟩ => ⟨S512x256, .f32⟩
  | .local _ .vmem, ⟨4, _⟩ => ⟨S4x512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v16 : BitVec 32 := Scalar.xori v2 c1_i32_13
  let c1_i32_19 : BitVec 32 := 1#32
  let v17 : BitVec 32 := Scalar.muli v16 c1_i32_19
  let v18 : BitVec 32 := Scalar.addi c0_i32_20 v17
  v18.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_25 : BitVec 32 := 3#32
  let v26 : BitVec 32 := Scalar.xori v2 c3_i32_25
  let c1_i32_31 : BitVec 32 := 1#32
  let v27 : BitVec 32 := Scalar.muli v26 c1_i32_31
  let v28 : BitVec 32 := Scalar.addi c0_i32_32 v27
  v28.toNat
def k0_dev7 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_36 : BitVec 32 := 4#32
  let v36 : BitVec 32 := Scalar.xori v2 c4_i32_36
  let c1_i32_41 : BitVec 32 := 1#32
  let v37 : BitVec 32 := Scalar.muli v36 c1_i32_41
  let v38 : BitVec 32 := Scalar.addi c0_i32_42 v37
  v38.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_46 : BitVec 32 := 8#32
  let v46 : BitVec 32 := Scalar.xori v2 c8_i32_46
  let c1_i32_52 : BitVec 32 := 1#32
  let v47 : BitVec 32 := Scalar.muli v46 c1_i32_52
  let v48 : BitVec 32 := Scalar.addi c0_i32_53 v47
  v48.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_57 : BitVec 32 := 1#32
  let v56 : BitVec 32 := Scalar.xori v2 c1_i32_57
  let c1_i32_63 : BitVec 32 := 1#32
  let v57 : BitVec 32 := Scalar.muli v56 c1_i32_63
  let v58 : BitVec 32 := Scalar.addi c0_i32_64 v57
  v58.toNat
def k0_dev10 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_68 : BitVec 32 := 3#32
  let v66 : BitVec 32 := Scalar.xori v2 c3_i32_68
  let c1_i32_73 : BitVec 32 := 1#32
  let v67 : BitVec 32 := Scalar.muli v66 c1_i32_73
  let v68 : BitVec 32 := Scalar.addi c0_i32_74 v67
  v68.toNat
def k0_dev11 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_78 : BitVec 32 := 4#32
  let v76 : BitVec 32 := Scalar.xori v2 c4_i32_78
  let c1_i32_83 : BitVec 32 := 1#32
  let v77 : BitVec 32 := Scalar.muli v76 c1_i32_83
  let v78 : BitVec 32 := Scalar.addi c0_i32_84 v77
  v78.toNat
def k0_dev12 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_88 : BitVec 32 := 8#32
  let v86 : BitVec 32 := Scalar.xori v2 c8_i32_88
  let c1_i32_93 : BitVec 32 := 1#32
  let v87 : BitVec 32 := Scalar.muli v86 c1_i32_93
  let v88 : BitVec 32 := Scalar.addi c0_i32_94 v87
  v88.toNat
def k0_dev13 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_125 : BitVec 32 := 3#32
  let v116 : BitVec 32 := Scalar.xori v2 c3_i32_125
  let c1_i32_131 : BitVec 32 := 1#32
  let v117 : BitVec 32 := Scalar.muli v116 c1_i32_131
  let v118 : BitVec 32 := Scalar.addi c0_i32_132 v117
  v118.toNat
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_164 : BitVec 32 := 4#32
  let v146 : BitVec 32 := Scalar.xori v2 c4_i32_164
  let c1_i32_170 : BitVec 32 := 1#32
  let v147 : BitVec 32 := Scalar.muli v146 c1_i32_170
  let v148 : BitVec 32 := Scalar.addi c0_i32_171 v147
  v148.toNat
def k0_dev15 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_203 : BitVec 32 := 8#32
  let v176 : BitVec 32 := Scalar.xori v2 c8_i32_203
  let c1_i32_209 : BitVec 32 := 1#32
  let v177 : BitVec 32 := Scalar.muli v176 c1_i32_209
  let v178 : BitVec 32 := Scalar.addi c0_i32_210 v177
  v178.toNat
def k0_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_242 : BitVec 32 := 1#32
  let v206 : BitVec 32 := Scalar.xori v2 c1_i32_242
  let c1_i32_248 : BitVec 32 := 1#32
  let v207 : BitVec 32 := Scalar.muli v206 c1_i32_248
  let v208 : BitVec 32 := Scalar.addi c0_i32_249 v207
  v208.toNat
def k0_dev17 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_281 : BitVec 32 := 3#32
  let v236 : BitVec 32 := Scalar.xori v2 c3_i32_281
  let c1_i32_287 : BitVec 32 := 1#32
  let v237 : BitVec 32 := Scalar.muli v236 c1_i32_287
  let v238 : BitVec 32 := Scalar.addi c0_i32_288 v237
  v238.toNat
def k0_dev18 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_320 : BitVec 32 := 4#32
  let v266 : BitVec 32 := Scalar.xori v2 c4_i32_320
  let c1_i32_326 : BitVec 32 := 1#32
  let v267 : BitVec 32 := Scalar.muli v266 c1_i32_326
  let v268 : BitVec 32 := Scalar.addi c0_i32_327 v267
  v268.toNat
def k0_dev19 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_359 : BitVec 32 := 8#32
  let v296 : BitVec 32 := Scalar.xori v2 c8_i32_359
  let c1_i32_365 : BitVec 32 := 1#32
  let v297 : BitVec 32 := Scalar.muli v296 c1_i32_365
  let v298 : BitVec 32 := Scalar.addi c0_i32_366 v297
  v298.toNat
def k0_dev20 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_398 : BitVec 32 := 1#32
  let v326 : BitVec 32 := Scalar.xori v2 c1_i32_398
  let c1_i32_404 : BitVec 32 := 1#32
  let v327 : BitVec 32 := Scalar.muli v326 c1_i32_404
  let v328 : BitVec 32 := Scalar.addi c0_i32_405 v327
  v328.toNat
def k0_dev21 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_437 : BitVec 32 := 4#32
  let v355 : BitVec 32 := Scalar.xori v2 c4_i32_437
  let c1_i32_443 : BitVec 32 := 1#32
  let v356 : BitVec 32 := Scalar.muli v355 c1_i32_443
  let v357 : BitVec 32 := Scalar.addi c0_i32_444 v356
  v357.toNat
def k0_dev22 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_477 : BitVec 32 := 8#32
  let v384 : BitVec 32 := Scalar.xori v2 c8_i32_477
  let c1_i32_483 : BitVec 32 := 1#32
  let v385 : BitVec 32 := Scalar.muli v384 c1_i32_483
  let v386 : BitVec 32 := Scalar.addi c0_i32_484 v385
  v386.toNat
def k0_dev23 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_517 : BitVec 32 := 1#32
  let v413 : BitVec 32 := Scalar.xori v2 c1_i32_517
  let c1_i32_523 : BitVec 32 := 1#32
  let v414 : BitVec 32 := Scalar.muli v413 c1_i32_523
  let v415 : BitVec 32 := Scalar.addi c0_i32_524 v414
  v415.toNat
def k0_dev24 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_557 : BitVec 32 := 3#32
  let v442 : BitVec 32 := Scalar.xori v2 c3_i32_557
  let c1_i32_563 : BitVec 32 := 1#32
  let v443 : BitVec 32 := Scalar.muli v442 c1_i32_563
  let v444 : BitVec 32 := Scalar.addi c0_i32_564 v443
  v444.toNat
def k0_dev25 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_597 : BitVec 32 := 4#32
  let v471 : BitVec 32 := Scalar.xori v2 c4_i32_597
  let c1_i32_603 : BitVec 32 := 1#32
  let v472 : BitVec 32 := Scalar.muli v471 c1_i32_603
  let v473 : BitVec 32 := Scalar.addi c0_i32_604 v472
  v473.toNat
def k0_dev26 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_637 : BitVec 32 := 8#32
  let v500 : BitVec 32 := Scalar.xori v2 c8_i32_637
  let c1_i32_643 : BitVec 32 := 1#32
  let v501 : BitVec 32 := Scalar.muli v500 c1_i32_643
  let v502 : BitVec 32 := Scalar.addi c0_i32_644 v501
  v502.toNat
def k0_dev27 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_677 : BitVec 32 := 1#32
  let v529 : BitVec 32 := Scalar.xori v2 c1_i32_677
  let c1_i32_683 : BitVec 32 := 1#32
  let v530 : BitVec 32 := Scalar.muli v529 c1_i32_683
  let v531 : BitVec 32 := Scalar.addi c0_i32_684 v530
  v531.toNat
def k0_dev28 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_717 : BitVec 32 := 3#32
  let v558 : BitVec 32 := Scalar.xori v2 c3_i32_717
  let c1_i32_723 : BitVec 32 := 1#32
  let v559 : BitVec 32 := Scalar.muli v558 c1_i32_723
  let v560 : BitVec 32 := Scalar.addi c0_i32_724 v559
  v560.toNat
def k0_dev29 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_756 : BitVec 32 := 8#32
  let v587 : BitVec 32 := Scalar.xori v2 c8_i32_756
  let c1_i32_762 : BitVec 32 := 1#32
  let v588 : BitVec 32 := Scalar.muli v587 c1_i32_762
  let v589 : BitVec 32 := Scalar.addi c0_i32_763 v588
  v589.toNat
def k0_dev30 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_796 : BitVec 32 := 1#32
  let v616 : BitVec 32 := Scalar.xori v2 c1_i32_796
  let c1_i32_802 : BitVec 32 := 1#32
  let v617 : BitVec 32 := Scalar.muli v616 c1_i32_802
  let v618 : BitVec 32 := Scalar.addi c0_i32_803 v617
  v618.toNat
def k0_dev31 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_836 : BitVec 32 := 3#32
  let v645 : BitVec 32 := Scalar.xori v2 c3_i32_836
  let c1_i32_842 : BitVec 32 := 1#32
  let v646 : BitVec 32 := Scalar.muli v645 c1_i32_842
  let v647 : BitVec 32 := Scalar.addi c0_i32_843 v646
  v647.toNat
def k0_dev32 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_876 : BitVec 32 := 4#32
  let v674 : BitVec 32 := Scalar.xori v2 c4_i32_876
  let c1_i32_882 : BitVec 32 := 1#32
  let v675 : BitVec 32 := Scalar.muli v674 c1_i32_882
  let v676 : BitVec 32 := Scalar.addi c0_i32_883 v675
  v676.toNat
def k0_dev33 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_916 : BitVec 32 := 8#32
  let v703 : BitVec 32 := Scalar.xori v2 c8_i32_916
  let c1_i32_922 : BitVec 32 := 1#32
  let v704 : BitVec 32 := Scalar.muli v703 c1_i32_922
  let v705 : BitVec 32 := Scalar.addi c0_i32_923 v704
  v705.toNat
def k0_dev34 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_956 : BitVec 32 := 1#32
  let v732 : BitVec 32 := Scalar.xori v2 c1_i32_956
  let c1_i32_962 : BitVec 32 := 1#32
  let v733 : BitVec 32 := Scalar.muli v732 c1_i32_962
  let v734 : BitVec 32 := Scalar.addi c0_i32_963 v733
  v734.toNat
def k0_dev35 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_996 : BitVec 32 := 3#32
  let v761 : BitVec 32 := Scalar.xori v2 c3_i32_996
  let c1_i32_1002 : BitVec 32 := 1#32
  let v762 : BitVec 32 := Scalar.muli v761 c1_i32_1002
  let v763 : BitVec 32 := Scalar.addi c0_i32_1003 v762
  v763.toNat
def k0_dev36 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1036 : BitVec 32 := 4#32
  let v790 : BitVec 32 := Scalar.xori v2 c4_i32_1036
  let c1_i32_1042 : BitVec 32 := 1#32
  let v791 : BitVec 32 := Scalar.muli v790 c1_i32_1042
  let v792 : BitVec 32 := Scalar.addi c0_i32_1043 v791
  v792.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x256 : Shape := ⟨2, ![8192, 256]⟩
abbrev S256x256 : Shape := ⟨2, ![256, 256]⟩
abbrev S16x512x256 : Shape := ⟨3, ![16, 512, 256]⟩
abbrev S_ : Shape := ⟨0, ![]⟩
abbrev S512x256 : Shape := ⟨2, ![512, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S16x512x256, .f32⟩
  | .hbm, ⟨3, _⟩ => ⟨S_, .f32⟩
  | .hbm, ⟨4, _⟩ => ⟨S512x256, .f32⟩
  | .hbm, ⟨5, _⟩ => ⟨S512x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Body.lean ====
/- The kernel's body as ONE loop text. The printed body is the unrolled 4 × 8 sequence of transfers; here it is written
   with a symbolic transfer number `i < 32` (step `i / 8`, row chunk `i % 8`), and the two are equal by computation. -/
module

public import proofs.«01_k».proof.Proof.Gen.KernelIdeal.Frame
public import proofs.«01_k».proof.Proof.Gen.KernelIdeal.Skeleton
public import Idealize.ShloMosaic.Lib.Tactic

@[expose] public section

noncomputable section

namespace Cert.Hyper

open Cert.KernelIdeal Cert.KernelIdeal.Gen
open Idealize.ShloMosaic Idealize.SL.Sem

variable {F : FTy → Type} [FloatOps F]

/-! ## Transfer numbers: step, row chunk, and which of the four partners -/

def sOf (i : ℕ) : Fin 4 := ⟨i / 8 % 4, by omega⟩
def cOf (i : ℕ) : Fin 8 := ⟨i % 8, by omega⟩
/-- `jOf` on bare numbers. -/
def jN (s c : ℕ) : Fin 4 := ⟨(s + c) % 4, by omega⟩
/-- Which mask chunk `c` uses at step `s`. -/
def jOf (s : Fin 4) (c : Fin 8) : Fin 4 := jN s.val c.val

/-- The exclusive-or mask of partner `j`, as the kernel's word. -/
def maskWord : Fin 4 → BitVec 32
  | ⟨0, _⟩ => 1#32
  | ⟨1, _⟩ => 3#32
  | ⟨2, _⟩ => 4#32
  | ⟨_ + 3, _⟩ => 8#32

/-- Partner `j` of device `d`, computed as the kernel computes it. -/
def partnerNat (j : Fin 4) (d : Dev nD) : ℕ :=
  (Scalar.addi 0#32 (Scalar.muli (Scalar.xori (Scalar.remsi (Scalar.divsi (Dev.word d) 1#32) 16#32) (maskWord j)) 1#32)).toNat

theorem partnerNat_lt : ∀ (j : Fin 4) (d : Dev nD), partnerNat j d < nD := by decide

def pd (j : Fin 4) (d : Dev nD) : Dev nD := ⟨partnerNat j d, partnerNat_lt j d⟩

/-! ## Views -/

abbrev xM : Memref sig .tc .vmem S512x256 .f32 := Memref.whole cc0_stg0_0
abbrev wM : Memref sig .tc .vmem S256x256 .f32 := Memref.whole cc0_stg1_0
abbrev oM : Memref sig .tc .vmem S512x256 .f32 := Memref.whole cc0_stg2_0
abbrev aM : Memref sig .tc .vmem S512x256 .f32 := Memref.whole cc0_scratch0
abbrev rM : Memref sig .tc .vmem S4x512x256 .f32 := Memref.whole cc0_scratch1

theorem row_inb (c : Fin 8) : ∀ a, (![64 * c.val, 0] : Fin 2 → Nat) a + S64x256.size a ≤ S512x256.size a := by
  revert c; decide
theorem slot_inb (s : Fin 4) (c : Fin 8) :
    ∀ a, (![s.val, 64 * c.val, 0] : Fin 3 → Nat) a + S1x64x256.size a ≤ S4x512x256.size a := by
  revert s c; decide
theorem sem_inb (s : Fin 4) (c : Fin 8) : ∀ a, (![s.val, c.val] : Fin 2 → Nat) a + S1x1.size a ≤ S4x8.size a := by
  revert s c; decide

/-- Rows `64 c … 64 c + 63`. -/
abbrev rowR (c : Fin 8) : Rect S512x256 := Rect.unit (s := S512x256) ![64 * c.val, 0] S64x256.size (row_inb c)
/-- The same rows of slot `s` of the receive buffer. -/
abbrev slotR (s : Fin 4) (c : Fin 8) : Rect S4x512x256 :=
  Rect.unit (s := S4x512x256) ![s.val, 64 * c.val, 0] S1x64x256.size (slot_inb s c)

abbrev rowV (m : Memref sig .tc .vmem S512x256 .f32) (c : Fin 8) : Memref sig .tc .vmem S64x256 .f32 :=
  m.slice (rowR c) (fun _ => rfl)
abbrev slotV (s : Fin 4) (c : Fin 8) : Memref sig .tc .vmem S64x256 .f32 :=
  (rM.slice (slotR s c) (fun _ => rfl)).squeeze S64x256 squeezes_S1x64x256_S64x256

abbrev sendSem (s : Fin 4) (c : Fin 8) : DmaSem sig :=
  ((cc0_scratch2.slice (Rect.unit (s := S4x8) ![s.val, c.val] S1x1.size (sem_inb s c))).squeeze S_ squeezes_S1x1_S_).sem
abbrev recvSem (s : Fin 4) (c : Fin 8) : DmaSem sig :=
  ((cc0_scratch3.slice (Rect.unit (s := S4x8) ![s.val, c.val] S1x1.size (sem_inb s c))).squeeze S_ squeezes_S1x1_S_).sem
abbrev barS : Sem sig := ((SemArray.scalar (sig.barrier 0 rfl) : Sems sig S_)).sem

/-- What step `s` adds to and sends: the input at the first step, the accumulator afterwards. -/
def baseM : ℕ → Memref sig .tc .vmem S512x256 .f32
  | 0 => xM
  | _ + 1 => aM

/-! ## Payloads -/

/-- The sum step `s` stores. -/
def sumPay (s : ℕ) (v : Vec F S64x256 .f32) (w : Vec F S1x64x256 .f32) : FVec F S64x256 .f32 :=
  match s with
  | 0 => shapeCast S64x256 (addf (shapeCast S64x256 v shapeCasts_S64x256_S64x256)
      (shapeCast S64x256 w shapeCasts_S1x64x256_S64x256)) shapeCasts_S64x256_S64x256
  | _ + 1 => shapeCast S64x256 (addf (F := F) (s := S64x256) v (shapeCast S64x256 w shapeCasts_S1x64x256_S64x256)) shapeCasts_S64x256_S64x256

/-- The product a chunk's last step stores. -/
def dotPay (v : Vec F S64x256 .f32) (w : Vec F S256x256 .f32) : FVec F S64x256 .f32 :=
  matmul dot_S64x256_S256x256_S64x256_1_0_0_1_n_n none v (shapeCast S256x256 w shapeCasts_S256x256_S256x256)
    (constant S64x256 .f32 0x00000000#32)

/-! ## The program -/

abbrev KProg (α : Type) := Prog (TpuEff nD τ sig (Elt F) Λ₀ .tc) α

def signalOp (d : Dev nD) (j : Fin 4) : KProg (F := F) PUnit := semSignalWord (pd j d) barS 1#32

/-- Transfer `(s, c)` leaves: its rows to partner `jOf`'s slot. -/
def sendOp (d : Dev nD) (s : Fin 4) (c : Fin 8) : KProg (F := F) PUnit :=
  Prog.lift (.enqueueDma (rowV (baseM s.val) c)
    (.remote (Dev.tc (pd (jOf s c) d)) (slotV s c) (.dma (sendSem s c)))
    (.dma (recvSem s c)) (View.wordExact_bits rfl) ((View.wordExact_bits rfl).reshape _ _)
    ⟨⟨rfl, Or.inl rfl⟩, trivial⟩)

/-- Both ends of transfer `(s, c)` are waited for. -/
def waitSendOp (s : Fin 4) (c : Fin 8) : KProg (F := F) PUnit :=
  Prog.lift (.waitDma2 (sendSem s c) (slotV s c) (rowV (baseM s.val) c)
    ((View.wordExact_bits rfl).reshape _ _) (View.wordExact_bits rfl))
def waitRecvOp (s : Fin 4) (c : Fin 8) : KProg (F := F) PUnit :=
  Prog.lift (.waitDma2 (recvSem s c) (rowV (baseM s.val) c) (slotV s c)
    (View.wordExact_bits rfl) ((View.wordExact_bits rfl).reshape _ _))

def loadRows (m : Memref sig .tc .vmem S512x256 .f32) (c : Fin 8) : KProg (F := F) (Vec F S64x256 .f32) :=
  Prog.lift (.load m (rowR c).toLoadRect (View.loadsAt_vmem h_S64x256))
def loadSlot (s : Fin 4) (c : Fin 8) : KProg (F := F) (Vec F S1x64x256 .f32) :=
  Prog.lift (.load rM (slotR s c).toLoadRect (View.loadsAt_vmem h_S1x64x256))
def loadW : KProg (F := F) (Vec F S256x256 .f32) :=
  Prog.lift (.load wM (Rect.unit (s := S256x256) ![0, 0] S256x256.size inb_S256x256_S256x256_0_0).toLoadRect
    (View.loadsAt_vmem h_S256x256))
def storeRows (m : Memref sig .tc .vmem S512x256 .f32) (c : Fin 8) (v : FVec F S64x256 .f32) : KProg (F := F) PUnit :=
  Prog.lift (.store m (rowR c) v Finset.univ (View.stores_vmem_bits_univ h_S64x256 rfl) (.inl rfl))

/-- The rows of transfer `(s, c)` are summed into the accumulator. -/
def addOp (s : Fin 4) (c : Fin 8) : KProg (F := F) PUnit := do
  let v ← loadRows (baseM s.val) c
  let w ← loadSlot s c
  let _ ← loadRows aM c
  storeRows aM c (sumPay s.val v w)

/-- A finished chunk is multiplied by the weights. -/
def dotOp (c : Fin 8) : KProg (F := F) PUnit := do
  let v ← loadRows aM c
  let w ← loadW
  let _ ← loadRows oM c
  storeRows oM c (dotPay v w)

/-- What follows the sum: the next transfer of the chunk, or the product. -/
def nextOp (d : Dev nD) (s : Fin 4) (c : Fin 8) : KProg (F := F) PUnit :=
  if h : s.val + 1 < 4 then sendOp d ⟨s.val + 1, h⟩ c else dotOp c

def chunkOp (d : Dev nD) (s : Fin 4) (c : Fin 8) : KProg (F := F) PUnit := do
  waitSendOp s c
  waitRecvOp s c
  addOp s c
  nextOp d s c

/-- The first `n` transfers yet to leave before the loop: numbers `8 - n … 7`. -/
def firstSends (d : Dev nD) : ℕ → KProg (F := F) PUnit
  | 0 => pure ⟨⟩
  | n + 1 => do
      sendOp d 0 (cOf (8 - (n + 1)))
      firstSends d n

/-- The last `n` chunks of the loop: numbers `32 - n … 31`. -/
def chunks (d : Dev nD) : ℕ → KProg (F := F) PUnit
  | 0 => pure ⟨⟩
  | n + 1 => do
      chunkOp d (sOf (32 - (n + 1))) (cOf (32 - (n + 1)))
      chunks d n

/-- The last `n` of the four barrier signals: to partners `4 - n … 3`. -/
def signals (d : Dev nD) : ℕ → KProg (F := F) PUnit
  | 0 => pure ⟨⟩
  | n + 1 => do
      signalOp d (jN (4 - (n + 1)) 0)
      signals d n

def bodyProg : KProg (F := F) PUnit := do
  let d : Dev nD ← Prog.lift .deviceId
  signals d 4
  semWaitWord barS 4#32
  firstSends d 8
  chunks d 32

set_option maxRecDepth 100000 in
set_option maxHeartbeats 0 in
theorem body_eq : cc0_body (F := F) xM (Memref.isWhole_whole _) wM (Memref.isWhole_whole _) oM (Memref.isWhole_whole _)
    aM (Memref.isWhole_whole _) rM (Memref.isWhole_whole _) cc0_scratch2 cc0_scratch3 = bodyProg := rfl

end Cert.Hyper
-- ==== Proof.Protocol.lean ====
/- The exchange's protocol: what every buffer holds at every step, which semaphore counts what and hands over what, and
   in which order the waits are safe. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Partners -/

theorem pd_pd : ∀ (j : Fin 4) (d : Dev nD), pd j (pd j d) = d := by decide

/-- Exchanging every device with its partner `j`. -/
def pdE (j : Fin 4) : Dev nD ≃ Dev nD := ⟨pd j, pd j, pd_pd j, pd_pd j⟩

/-- The step at which chunk `c` goes to partner `j`. -/
def sj (j : Fin 4) (c : Fin 8) : Fin 4 := ⟨(j.val + 3 * c.val) % 4, by omega⟩

theorem jOf_eq (s : Fin 4) (c : Fin 8) : jOf s c = jN s.val c.val := rfl
theorem jOf_sj (j : Fin 4) (c : Fin 8) : jOf (sj j c) c = j := by revert j c; decide
theorem sj_jOf (s : Fin 4) (c : Fin 8) : sj (jOf s c) c = s := by revert s c; decide

/-- For a fixed chunk, steps and partners determine each other. -/
def stepE (c : Fin 8) : Fin 4 ≃ Fin 4 := ⟨fun s => jOf s c, fun j => sj j c, fun s => sj_jOf s c, fun j => jOf_sj j c⟩

/-! ## Semaphores -/

/-- The transfers' own semaphores: `false` where the sender waits, `true` where the receiver does. -/
def osem : Bool × Fin 4 × Fin 8 → SemLoc sig
  | (false, s, c) => .dma (sendSem s c)
  | (true, s, c) => .dma (recvSem s c)

/-- All semaphores of the exchange: the entry barrier's and the transfers'. -/
abbrev Key : Type := Unit ⊕ (Bool × Fin 4 × Fin 8)
def csem : Key → SemLoc sig
  | .inl _ => .reg barS
  | .inr k => osem k

def semNum : SemLoc sig → ℕ
  | .reg _ => 0
  | .dma q => q.val

theorem osem_num : ∀ k : Bool × Fin 4 × Fin 8, semNum (osem k) = 3 + 32 * k.1.toNat + 8 * k.2.1.val + k.2.2.val := by decide

theorem osem_inj : Function.Injective osem := fun k k' h => by
  have h' := congrArg semNum h
  rw [osem_num, osem_num] at h'
  obtain ⟨b, s, c⟩ := k
  obtain ⟨b', s', c'⟩ := k'
  have hb : b.toNat < 2 := by cases b <;> decide
  have hb' : b'.toNat < 2 := by cases b' <;> decide
  dsimp only at h'
  have e1 : b.toNat = b'.toNat := by omega
  have e2 : s = s' := Fin.ext (by omega)
  have e3 : c = c' := Fin.ext (by omega)
  have e4 : b = b' := by cases b <;> cases b' <;> first | rfl | (simp at e1)
  rw [e2, e3, e4]

theorem osem_ne_bar (k : Bool × Fin 4 × Fin 8) : osem k ≠ .reg barS := by
  obtain ⟨b, s, c⟩ := k
  cases b <;> exact fun h => by cases h

theorem csem_inj : Function.Injective csem := fun k k' h => by
  rcases k with ⟨⟩ | k <;> rcases k' with ⟨⟩ | k'
  · rfl
  · exact absurd h.symm (osem_ne_bar k')
  · exact absurd h (osem_ne_bar k)
  · exact congrArg Sum.inr (osem_inj h)

/-- Which of the exchange's semaphores a semaphore is. -/
def keyOf : SemLoc sig → Option Key := Function.partialInv csem
theorem keyOf_csem (k : Key) : keyOf (csem k) = some k := Function.partialInv_left csem_inj k
theorem keyOf_none {sm : SemLoc sig} (h : ∀ k, csem k ≠ sm) : keyOf sm = none := by
  unfold keyOf Function.partialInv; exact dif_neg fun ⟨k, hk⟩ => h k hk

theorem keyOf_bar : keyOf (.reg barS) = some (.inl ()) := keyOf_csem (.inl ())
theorem keyOf_send (s : Fin 4) (c : Fin 8) : keyOf (.dma (sendSem s c)) = some (.inr (false, s, c)) := keyOf_csem (.inr (false, s, c))
theorem keyOf_recv (s : Fin 4) (c : Fin 8) : keyOf (.dma (recvSem s c)) = some (.inr (true, s, c)) := keyOf_csem (.inr (true, s, c))

abbrev kcell (p : Dev nD × Key) : GSem nD τ sig := ((p.1 : Thread nD τ), csem p.2)
abbrev barCell (d : Dev nD) : GSem nD τ sig := ((d : Thread nD τ), .reg barS)
abbrev sendCell (d : Dev nD) (s : Fin 4) (c : Fin 8) : GSem nD τ sig := ((d : Thread nD τ), .dma (sendSem s c))
abbrev recvCell (d : Dev nD) (s : Fin 4) (c : Fin 8) : GSem nD τ sig := ((d : Thread nD τ), .dma (recvSem s c))

/-- What one transfer counts. -/
abbrev N : ℕ := (slotV 0 0).view.dmaCredit
theorem N_pos : 0 < N := View.dmaCredit_pos _ (by decide)
theorem credit_slot (s : Fin 4) (c : Fin 8) : (slotV s c).view.dmaCredit = N := rfl
theorem credit_base (s : ℕ) (c : Fin 8) : (rowV (baseM s) c).view.dmaCredit = N := by cases s <;> rfl

/-! ## Contents -/

abbrev Blk (F : FTy → Type) : Type := Vec F S512x256 .f32

/-- Device `d`'s own rows and its weights, as staged. -/
def xstg (d : Dev nD) : Blk F :=
  (win0_0.blk (0 : Fin 1)).view.read (Elt F) (m ((d : Thread nD τ).loc main_arg0))
def wstg (d : Dev nD) : Vec F S256x256 .f32 :=
  (win0_1.blk (0 : Fin 1)).view.read (Elt F) (m ((d : Thread nD τ).loc main_arg1))

/-- Device `d`'s running sum before step `s`: every step adds the running sum of the partner the row's chunk meets. -/
def A : ℕ → Dev nD → Blk F
  | 0, d => xstg m d
  | s + 1, d => fun ix => FloatOps.addf (A s d ix) (A s (pd (jN s ((ix 0).val / 64)) d) ix)

/-- What device `d`'s receive buffer holds once filled. -/
def R (d : Dev nD) : Vec F S4x512x256 .f32 := fun ix =>
  A m (ix 0).val (pd (jN (ix 0).val ((ix 1).val / 64)) d) (ix2 (n0 := 512) (n1 := 256) (ix 1) (ix 2))

/-- Rows `64 c … 64 c + 63` of a block. -/
def rowsOf (c : Fin 8) (X : Blk F) : Vec F S64x256 .f32 := fun ix => X ((rowR c).emb ix)

/-- What device `d` writes to its result. -/
def O (d : Dev nD) : Blk F := fun ix =>
  dotPay (rowsOf ⟨(ix 0).val / 64, Nat.div_lt_of_lt_mul (ix 0).isLt⟩ (A m 4 d)) (wstg m d)
    (ix2 (n0 := 64) (n1 := 256) ⟨(ix 0).val % 64, Nat.mod_lt _ (by decide)⟩ (ix 1))

/-- The contents of what step `s` reads, in that buffer's own type. -/
def baseBuf (s : ℕ) (d : Dev nD) : Buf (Elt F) ((baseM s).view.loc (d : Thread nD τ)) :=
  match s with
  | 0 => A m 0 d
  | s + 1 => A m (s + 1) d

def rowPts (M : Memref sig .tc .vmem S512x256 .f32) (d : Dev nD) (c : Fin 8) (f : Buf (Elt F) (M.view.loc (d : Thread nD τ))) : sProp 𝕄 :=
  (rowV M c).view.loc (d : Thread nD τ) ↦[(rowV M c).view.set]{fullShare} f
def slotPts (d : Dev nD) (s : Fin 4) (c : Fin 8) (f : Buf (Elt F) (rM.view.loc (d : Thread nD τ))) : sProp 𝕄 :=
  (slotV s c).view.loc (d : Thread nD τ) ↦[(slotV s c).view.set]{fullShare} f

instance rowPts_storable (M) (d : Dev nD) (c) (f) : BI.Storable (upEmb : UEmb _ 𝕄) (rowPts (F := F) M d c f) := by unfold rowPts; infer_instance
instance slotPts_storable (d : Dev nD) (s c) (f) : BI.Storable (upEmb : UEmb _ 𝕄) (slotPts (F := F) d s c f) := by unfold slotPts; infer_instance

/-! ## The schedule -/

/-- What partner `j` hands over at the entry barrier: its receive slots for the chunks that come from this device. -/
def barPay (d : Dev nD) (j : Fin 4) : sProp 𝕄 := bigSep Finset.univ fun c : Fin 8 => iprop(∃ f, slotPts (pd j d) (sj j c) c f)

instance barPay_storable (d : Dev nD) (j : Fin 4) : BI.Storable (upEmb : UEmb _ 𝕄) (barPay (F := F) d j) := by unfold barPay; infer_instance

def dutiesK : Option Key → Finset (Fin 4)
  | some (.inl _) => Finset.univ
  | some (.inr _) => {0}
  | none => ∅
def amountK : Option Key → ℕ
  | some (.inr _) => N
  | _ => 1
def payK (d : Dev nD) (j : Fin 4) : Option Key → sProp 𝕄
  | some (.inl _) => barPay d j
  | some (.inr (false, s, c)) => rowPts (baseM s.val) d c (baseBuf m s.val d)
  | some (.inr (true, s, c)) => slotPts d s c (R m d)
  | none => iprop(emp)

/-- One round: the barrier's four units, one from each partner, and each transfer's two ends. -/
def Rd : Rounds.Schedule (GSem nD τ sig) (Fin 4) 𝕄 where
  duties g r := if r = 0 ∧ g.1.2 = .tc then dutiesK (keyOf g.2) else ∅
  unitless _ := False
  amount g _ _ := amountK (keyOf g.2)
  payload g _ j := payK m g.1.1 j (keyOf g.2)
  amount_pos g _ _ _ := by
    unfold amountK
    split
    · exact N_pos
    · exact Nat.one_pos

instance Rd_storable (g : GSem nD τ sig) (r : ℕ) (j : Fin 4) : BI.Storable (upEmb : UEmb _ 𝕄) ((Rd m).payload g r j) := by
  show BI.Storable upEmb (payK m g.1.1 j (keyOf g.2))
  unfold payK
  split <;> infer_instance

section Sched
variable (d : Dev nD) (s : Fin 4) (c : Fin 8)

theorem duties_key (k : Key) : (Rd m).duties (kcell (d, k)) 0 = dutiesK (some k) := by
  dsimp only [Rd]; rw [if_pos ⟨rfl, rfl⟩, keyOf_csem]
theorem duties_later (g : GSem nD τ sig) : ∀ r, 1 ≤ r → (Rd m).duties g r = ∅ := fun r hr => by
  dsimp only [Rd]; exact if_neg fun h => by omega
theorem amount_key (k : Key) (j : Fin 4) : (Rd m).amount (kcell (d, k)) 0 j = amountK (some k) := by
  dsimp only [Rd]; rw [keyOf_csem]
theorem payload_key (k : Key) (j : Fin 4) : (Rd m).payload (kcell (d, k)) 0 j = payK m d j (some k) := by
  dsimp only [Rd]; rw [keyOf_csem]

theorem duties_bar : (Rd m).duties (barCell d) 0 = Finset.univ := duties_key m d (.inl ())
theorem duties_send : (Rd m).duties (sendCell d s c) 0 = {0} := duties_key m d (.inr (false, s, c))
theorem duties_recv : (Rd m).duties (recvCell d s c) 0 = {0} := duties_key m d (.inr (true, s, c))
theorem amount_bar (j : Fin 4) : (Rd m).amount (barCell d) 0 j = 1 := amount_key m d (.inl ()) j
theorem amount_send (j : Fin 4) : (Rd m).amount (sendCell d s c) 0 j = N := amount_key m d (.inr (false, s, c)) j
theorem amount_recv (j : Fin 4) : (Rd m).amount (recvCell d s c) 0 j = N := amount_key m d (.inr (true, s, c)) j
theorem payload_bar (j : Fin 4) : (Rd m).payload (barCell d) 0 j = barPay d j := payload_key m d (.inl ()) j
theorem payload_send (j : Fin 4) : (Rd m).payload (sendCell d s c) 0 j = rowPts (baseM s.val) d c (baseBuf m s.val d) :=
  payload_key m d (.inr (false, s, c)) j
theorem payload_recv (j : Fin 4) : (Rd m).payload (recvCell d s c) 0 j = slotPts d s c (R m d) :=
  payload_key m d (.inr (true, s, c)) j

theorem expect_bar : (Rd m).expect (barCell d) 0 = 4 := by
  unfold Schedule.expect Schedule.amountOf
  rw [duties_bar, Finset.sum_congr rfl fun j _ => amount_bar m d j]; rfl
theorem expect_send : (Rd m).expect (sendCell d s c) 0 = N := by
  unfold Schedule.expect Schedule.amountOf; rw [duties_send, Finset.sum_singleton, amount_send]
theorem expect_recv : (Rd m).expect (recvCell d s c) 0 = N := by
  unfold Schedule.expect Schedule.amountOf; rw [duties_recv, Finset.sum_singleton, amount_recv]

theorem rest_bar : bigSep ((Rd m).duties (barCell d) 0 \ ∅) (fun j => (Rd m).payload (barCell d) 0 j) = bigSep Finset.univ fun j => barPay d j := by
  rw [Finset.sdiff_empty, duties_bar]; exact bigSep_congr fun j _ => payload_bar m d j
theorem rest_send : bigSep ((Rd m).duties (sendCell d s c) 0 \ ∅) (fun j => (Rd m).payload (sendCell d s c) 0 j)
    = rowPts (baseM s.val) d c (baseBuf m s.val d) := by
  rw [Finset.sdiff_empty, duties_send, bigSep_singleton, payload_send]
theorem rest_recv : bigSep ((Rd m).duties (recvCell d s c) 0 \ ∅) (fun j => (Rd m).payload (recvCell d s c) 0 j) = slotPts d s c (R m d) := by
  rw [Finset.sdiff_empty, duties_recv, bigSep_singleton, payload_recv]

end Sched

/-! ## What a device owes, and the order of waits -/

/-- The credit transfer `(s, c)` of device `d` brings its partner. -/
def tallyOf (d : Dev nD) (s : Fin 4) (c : Fin 8) : CellTallies nD τ sig Unit := tallyAt (recvCell (pd (jOf s c) d) s c) () N

/-- What device `d` owes while its last `n` transfers are still to leave. -/
def owe (d : Dev nD) : ℕ → CellTallies nD τ sig Unit
  | 0 => 0
  | n + 1 => owe d n + tallyOf d (sOf (32 - (n + 1))) (cOf (32 - (n + 1)))

/-- The same with the last `k` of its barrier signals still to be given: partners `4 - k … 3`. -/
def oweBar (d : Dev nD) : ℕ → CellTallies nD τ sig Unit
  | 0 => owe d 32
  | k + 1 => oweBar d k + tallyAt (barCell (pd (jN (4 - (k + 1)) 0) d)) () 1

def L (g : GSem nD τ sig) : Finset Unit := if g.1.2 = .tc then {()} else ∅
def lvK : Option Key → ℕ
  | some (.inl _) => 1
  | some (.inr (true, s, c)) => 8 * s.val + c.val + 2
  | _ => 0
/-- Barrier cells first, then receive cells in the order of the transfers; all else below. -/
def lv (g : GSem nD τ sig) (_ : Unit) : ℕ := lvK (keyOf g.2)

theorem L_of_ne (g : GSem nD τ sig) (h : g.1.2 ≠ .tc) : L g = ∅ := if_neg h
theorem L_tc (d : Dev nD) (sm : SemLoc sig) : L ((d : Thread nD τ), sm) = {()} := if_pos rfl
theorem L_mem (d : Dev nD) (sm : SemLoc sig) (u : Unit) : u ∈ L ((d : Thread nD τ), sm) := by
  rw [L_tc]; exact Finset.mem_singleton_self _

theorem lv_recv (d : Dev nD) (s : Fin 4) (c : Fin 8) (u : Unit) : lv (recvCell d s c) u = 8 * s.val + c.val + 2 := by
  unfold lv; dsimp only; rw [keyOf_recv]; rfl
theorem lv_send (d : Dev nD) (s : Fin 4) (c : Fin 8) (u : Unit) : lv (sendCell d s c) u = 0 := by
  unfold lv; dsimp only; rw [keyOf_send]; rfl
theorem lv_bar (d : Dev nD) (u : Unit) : lv (barCell d) u = 1 := by
  unfold lv; dsimp only; rw [keyOf_bar]; rfl

theorem owe_pos {d : Dev nD} {g : GSem nD τ sig} {u : Unit} : ∀ {n : ℕ}, n ≤ 32 → 0 < owe d n g u →
    (∃ d' : Dev nD, ∃ sm, g = ((d' : Thread nD τ), sm)) ∧ 34 - n ≤ lv g u
  | 0, _, h => absurd h (Nat.lt_irrefl 0)
  | n + 1, hn, h => by
      unfold owe tallyOf at h
      rw [Pi.add_apply, Finsupp.add_apply, tallyAt_apply] at h
      by_cases h0 : 0 < owe d n g u
      · obtain ⟨h1, h2⟩ := owe_pos (by omega) h0
        exact ⟨h1, by omega⟩
      · by_cases he : g = recvCell (pd (jOf (sOf (32 - (n + 1))) (cOf (32 - (n + 1)))) d) (sOf (32 - (n + 1))) (cOf (32 - (n + 1))) ∧ u = ()
        · refine ⟨⟨_, _, he.1⟩, ?_⟩
          rw [he.1, lv_recv]
          dsimp only [sOf, cOf]
          omega
        · rw [if_neg he] at h; omega

theorem oweBar_pos {d : Dev nD} {g : GSem nD τ sig} {u : Unit} : ∀ {k : ℕ}, 0 < oweBar d k g u →
    (∃ d' : Dev nD, ∃ sm, g = ((d' : Thread nD τ), sm)) ∧ 1 ≤ lv g u
  | 0, h => by
      obtain ⟨h1, h2⟩ := owe_pos (n := 32) le_rfl h
      exact ⟨h1, by omega⟩
  | k + 1, h => by
      unfold oweBar at h
      rw [Pi.add_apply, Finsupp.add_apply, tallyAt_apply] at h
      by_cases h0 : 0 < oweBar d k g u
      · exact oweBar_pos h0
      · by_cases he : g = barCell (pd (jN (4 - (k + 1)) 0) d) ∧ u = ()
        · refine ⟨⟨_, _, he.1⟩, ?_⟩
          rw [he.1, lv_bar]
        · rw [if_neg he] at h; omega

/-- A wait below everything owed is safe. -/
theorem mayWait_of (d : Dev nD) (sm : SemLoc sig) (n : ℕ) (O : CellTallies nD τ sig Unit)
    (hO : ∀ g u, 0 < O g u → (∃ d' : Dev nD, ∃ sm, g = ((d' : Thread nD τ), sm)) ∧ n < lv g u)
    (hn : lv ((d : Thread nD τ), sm) () ≤ n) :
    (levAts L lv : sProp 𝕄) ⊢ MayWait (d : Thread nD τ) sm () O :=
  MayOwe.of_cut (L := L) (lev := lv) n
    (fun p hp => by rw [Finset.mem_singleton.mp hp]; exact L_mem d sm ())
    (fun g u hg => by obtain ⟨⟨d', sm', rfl⟩, -⟩ := hO g u hg; exact L_mem d' sm' u)
    (fun p hp => by rw [Finset.mem_singleton.mp hp]; exact hn)
    (fun g u hg => (hO g u hg).2)

theorem mayWait_bar (d : Dev nD) : (levAts L lv : sProp 𝕄) ⊢ MayWait (d : Thread nD τ) (.reg barS) () (owe d 32) :=
  mayWait_of d _ 1 _ (fun g u h => by
    obtain ⟨h1, h2⟩ := owe_pos le_rfl h
    exact ⟨h1, by omega⟩) (by rw [show lv ((d : Thread nD τ), .reg barS) () = 1 from lv_bar d ()])

theorem mayWait_send (d : Dev nD) (s : Fin 4) (c : Fin 8) (n : ℕ) (hn : n ≤ 32) :
    (levAts L lv : sProp 𝕄) ⊢ MayWait (d : Thread nD τ) (.dma (sendSem s c)) () (owe d n) :=
  mayWait_of d _ 0 _ (fun g u h => by
    obtain ⟨h1, h2⟩ := owe_pos hn h
    exact ⟨h1, by omega⟩) (by rw [show lv ((d : Thread nD τ), .dma (sendSem s c)) () = 0 from lv_send d s c ()])

theorem mayWait_recv (d : Dev nD) (s : Fin 4) (c : Fin 8) (n : ℕ) (hn : n ≤ 32) (h : 8 * s.val + c.val + n < 32) :
    (levAts L lv : sProp 𝕄) ⊢ MayWait (d : Thread nD τ) (.dma (recvSem s c)) () (owe d n) :=
  mayWait_of d _ (8 * s.val + c.val + 2) _ (fun g u hg => by
    obtain ⟨h1, h2⟩ := owe_pos hn hg
    exact ⟨h1, by omega⟩) (by rw [show lv ((d : Thread nD τ), .dma (recvSem s c)) () = _ from lv_recv d s c ()])

/-- The staging semaphores lie below everything owed. -/
theorem mayWait_stage (d : Dev nD) (q : DmaSem sig) (hq : ∀ k, csem k ≠ .dma q) (O : CellTallies nD τ sig Unit)
    (hO : O = oweBar d 4 ∨ O = 0) : (levAts L lv : sProp 𝕄) ⊢ MayWait (d : Thread nD τ) (.dma q) () O := by
  rcases hO with rfl | rfl
  · refine mayWait_of d _ 0 _ (fun g u h => ?_) (by unfold lv; dsimp only; rw [keyOf_none hq]; exact le_rfl)
    obtain ⟨h1, h2⟩ := oweBar_pos h
    exact ⟨h1, by omega⟩
  · rw [MayWait_zero]; iintro -; iempintro

end Cert.Hyper
-- ==== Proof.Steps.lean ====
/- The parts of one transfer, each by the rule for its one operation: the transfer leaving, its two waits, the sum and
   the product; with what each leaves in its rows. -/
module

public import proofs.«01_k».proof.Proof.Protocol

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Contents of rows and slots -/

theorem row_emb (c : Fin 8) (x : Fin 64) (y : Fin 256) :
    (rowR c).emb (ix2 x y) = (ix2 (n0 := 512) (n1 := 256) ⟨64 * c.val + x.val, by omega⟩ y : S512x256.Idx) := by
  funext a
  apply Fin.ext
  rw [Rect.emb_apply]
  match a with
  | ⟨0, _⟩ => show 64 * c.val + 1 * x.val = 64 * c.val + x.val; omega
  | ⟨1, _⟩ => show 0 + 1 * y.val = y.val; omega

theorem slot_emb (s : Fin 4) (c : Fin 8) (x : Fin 64) (y : Fin 256) :
    (slotV s c).view.emb (ix2 x y) = (ix3 (n0 := 4) (n1 := 512) (n2 := 256) s ⟨64 * c.val + x.val, by omega⟩ y : S4x512x256.Idx) := by
  show (slotR s c).emb (Shape.reshapeEquiv _ (ix2 x y)) = _
  rw [reshapeEquiv_ix2_1ab]
  funext a
  apply Fin.ext
  rw [Rect.emb_apply]
  match a with
  | ⟨0, _⟩ => show s.val + 1 * 0 = s.val; omega
  | ⟨1, _⟩ => show 64 * c.val + 1 * x.val = 64 * c.val + x.val; omega
  | ⟨2, _⟩ => show 0 + 1 * y.val = y.val; omega

theorem base_read (s : ℕ) (d : Dev nD) (c : Fin 8) :
    (rowV (baseM s) c).view.read (Elt F) (baseBuf m s d) = rowsOf c (A m s d) := by
  cases s <;> rfl

/-- The sums agree, whichever way the step is printed. -/
theorem sumPay_apply (s : ℕ) (v : Vec F S64x256 .f32) (w : Vec F S1x64x256 .f32) (x : Fin 64) (y : Fin 256) :
    sumPay s v w (ix2 x y) = FloatOps.addf (v (ix2 x y)) (w (ix3 (⟨0, Nat.one_pos⟩ : Fin 1) x y)) := by
  cases s
  · unfold sumPay
    simp only [shapeCast, Shape.reshapeEquiv_self, addf]
    rw [reshapeEquiv_ix2_1ab]
  · unfold sumPay
    simp only [shapeCast, Shape.reshapeEquiv_self, addf]
    rw [reshapeEquiv_ix2_1ab]

theorem slot_load (s : Fin 4) (c : Fin 8) (d : Dev nD) (x : Fin 64) (y : Fin 256) :
    (rM.access (slotR s c)).read (Elt F) (R m d) (ix3 (⟨0, Nat.one_pos⟩ : Fin 1) x y)
      = A m s.val (pd (jOf s c) d) ((rowR c).emb (ix2 x y)) := by
  have he : (slotR s c).emb (ix3 (⟨0, Nat.one_pos⟩ : Fin 1) x y)
      = (ix3 (n0 := 4) (n1 := 512) (n2 := 256) s ⟨64 * c.val + x.val, by omega⟩ y : S4x512x256.Idx) := by
    rw [← slot_emb s c x y]
    show _ = (slotR s c).emb (Shape.reshapeEquiv _ (ix2 x y))
    rw [reshapeEquiv_ix2_1ab]
  show R m d ((slotR s c).emb (ix3 (⟨0, Nat.one_pos⟩ : Fin 1) x y)) = _
  rw [he, row_emb]
  unfold R
  rw [jOf_eq]
  have h64 : (64 * c.val + x.val) / 64 = c.val := by omega
  show A m s.val (pd (jN s.val ((64 * c.val + x.val) / 64)) d) _ = _
  rw [h64]

/-- A transfer's bytes, landed, are what the partner's receive buffer holds once filled. -/
theorem landed (s : Fin 4) (c : Fin 8) (d : Dev nD) (fd : Buf (Elt F) (rM.view.loc ((pd (jOf s c) d : Dev nD) : Thread nD τ))) :
    ((slotV s c).view.loc ((pd (jOf s c) d : Dev nD) : Thread nD τ) ↦[(slotV s c).view.set]{fullShare}
        ((slotV s c).view.write (Elt F) fd ((rowV (baseM s.val) c).view.read (Elt F) (baseBuf m s.val d)) Finset.univ) : sProp 𝕄)
      = slotPts (pd (jOf s c) d) s c (R m (pd (jOf s c) d)) := by
  unfold slotPts
  refine pointsTo_congr fun i hi => ?_
  obtain ⟨ix, -, rfl⟩ := Finset.mem_map.mp hi
  obtain ⟨x, y, rfl⟩ : ∃ x : Fin 64, ∃ y : Fin 256, ix = ix2 x y := ⟨ix 0, ix 1, eq_ix2 ix⟩
  rw [View.write_emb_of_mem _ _ (Finset.mem_univ _), base_read, slot_emb]
  unfold R rowsOf
  have h64 : (64 * c.val + x.val) / 64 = c.val := by omega
  show A m s.val d ((rowR c).emb (ix2 x y)) = A m s.val (pd (jN s.val ((64 * c.val + x.val) / 64)) (pd (jOf s c) d)) _
  rw [h64, jOf_eq, pd_pd, row_emb]

/-- The stored sum is the next running sum on its rows. -/
theorem summed (s : Fin 4) (c : Fin 8) (d : Dev nD) (f : Buf (Elt F) (aM.view.loc (d : Thread nD τ))) :
    ((aM.access (rowR c)).loc (d : Thread nD τ) ↦[(rowV aM c).view.set]{fullShare}
        ((aM.access (rowR c)).write (Elt F) f
          (sumPay s.val (rowsOf c (A m s.val d)) ((rM.access (slotR s c)).read (Elt F) (R m d))) Finset.univ) : sProp 𝕄)
      = rowPts (baseM (s.val + 1)) d c (baseBuf m (s.val + 1) d) := by
  show _ = ((aM.access (rowR c)).loc (d : Thread nD τ) ↦[(rowV aM c).view.set]{fullShare} (A m (s.val + 1) d) : sProp 𝕄)
  refine pointsTo_congr fun i hi => ?_
  obtain ⟨ix, -, rfl⟩ := Finset.mem_map.mp hi
  obtain ⟨x, y, rfl⟩ : ∃ x : Fin 64, ∃ y : Fin 256, ix = ix2 x y := ⟨ix 0, ix 1, eq_ix2 ix⟩
  show (aM.access (rowR c)).write (Elt F) f _ Finset.univ ((aM.access (rowR c)).emb (ix2 x y)) = _
  rw [View.write_emb_of_mem _ _ (Finset.mem_univ _), sumPay_apply, slot_load]
  show FloatOps.addf (A m s.val d ((rowR c).emb (ix2 x y))) _ = A m (s.val + 1) d ((rowR c).emb (ix2 x y))
  have h64 : (64 * c.val + x.val) / 64 = c.val := by omega
  rw [row_emb]
  show _ = FloatOps.addf (A m s.val d _) (A m s.val (pd (jN s.val ((64 * c.val + x.val) / 64)) d) _)
  rw [h64, jOf_eq]

/-- The stored product is the result on its rows. -/
theorem multiplied (c : Fin 8) (d : Dev nD) (f : Buf (Elt F) (oM.view.loc (d : Thread nD τ))) :
    ((oM.access (rowR c)).loc (d : Thread nD τ) ↦[(rowV oM c).view.set]{fullShare}
        ((oM.access (rowR c)).write (Elt F) f (dotPay (rowsOf c (A m 4 d)) (wstg m d)) Finset.univ) : sProp 𝕄)
      = rowPts oM d c (O m d) := by
  unfold rowPts
  refine pointsTo_congr fun i hi => ?_
  obtain ⟨ix, -, rfl⟩ := Finset.mem_map.mp hi
  obtain ⟨x, y, rfl⟩ : ∃ x : Fin 64, ∃ y : Fin 256, ix = ix2 x y := ⟨ix 0, ix 1, eq_ix2 ix⟩
  show (oM.access (rowR c)).write (Elt F) f _ Finset.univ ((oM.access (rowR c)).emb (ix2 x y)) = O m d ((rowR c).emb (ix2 x y))
  rw [View.write_emb_of_mem _ _ (Finset.mem_univ _), row_emb]
  show dotPay (rowsOf c (A m 4 d)) (wstg m d) (ix2 x y) = _
  unfold O
  have hq : (⟨(64 * c.val + x.val) / 64, Nat.div_lt_of_lt_mul (by omega)⟩ : Fin 8) = c := Fin.ext (by dsimp only; omega)
  have hr : (⟨(64 * c.val + x.val) % 64, Nat.mod_lt _ (by decide)⟩ : Fin 64) = x := Fin.ext (by dsimp only; omega)
  show _ = dotPay (rowsOf (⟨(64 * c.val + x.val) / 64, Nat.div_lt_of_lt_mul (by omega)⟩ : Fin 8) (A m 4 d)) (wstg m d)
    (ix2 (n0 := 64) (n1 := 256) ⟨(64 * c.val + x.val) % 64, Nat.mod_lt _ (by decide)⟩ y)
  rw [hq, hr]

/-! ## The shared records -/

/-- Every cell's invariant, under the names `K`, and that every cell has reached its only round. -/
def recs (K : Dev nD × Key → ℕ) : sProp 𝕄 :=
  iprop((bigSep Finset.univ fun p : Dev nD × Key => cellInv ER (Rd m) (K p) (kcell p))
    ∗ bigSep Finset.univ fun p : Dev nD × Key => reached ER (kcell p) 0)

instance recs_persistent (K : Dev nD × Key → ℕ) : BI.Persistent (recs m K) := by unfold recs; infer_instance

theorem recs_inv (K : Dev nD × Key → ℕ) (p : Dev nD × Key) : recs m K ⊢ cellInv ER (Rd m) (K p) (kcell p) := by
  unfold recs; exact BI.sep_and.trans (and_elimL.trans (bigSep_elim (Finset.mem_univ p)))
theorem recs_reached (K : Dev nD × Key → ℕ) (p : Dev nD × Key) : recs m K ⊢ reached ER (kcell p) 0 := by
  unfold recs; exact BI.sep_and.trans (and_elimR.trans (bigSep_elim (Finset.mem_univ p)))

abbrev kSend (d : Dev nD) (s : Fin 4) (c : Fin 8) : Dev nD × Key := (d, .inr (false, s, c))
abbrev kRecv (d : Dev nD) (s : Fin 4) (c : Fin 8) : Dev nD × Key := (d, .inr (true, s, c))
abbrev kBar (d : Dev nD) : Dev nD × Key := (d, .inl ())

/-! ## The operations -/

section Ops
variable (K : Dev nD × Key → ℕ) (d : Dev nD) (s : Fin 4) (c : Fin 8)

abbrev wpT {α : Type} (d : Dev nD) (p : KProg (F := F) α) (Q : α → sProp 𝕄) : sProp 𝕄 :=
  wp frame (wpE (defs₀ (F := F)) 𝒱₀ (d : Thread nD τ) none) Set.univ p Q

/-- A signal to partner `j`'s barrier hands over this device's slots for the chunks that partner sends. -/
theorem wp_signalOp (j : Fin 4) (O : CellTallies nD τ sig Unit) (W : Waits sig Unit) (Q : PUnit → sProp 𝕄) :
    iprop(recs m K ∗ owes (d : Thread nD τ) (O + tallyAt (barCell (pd j d)) () 1) W ∗ dutyTok ER (barCell (pd j d)) 0 j
        ∗ barPay (pd j d) j)
      ⊢ iprop((owes (d : Thread nD τ) O W -∗ Q ⟨⟩) -∗ wpT d (signalOp d j) Q) := by
  unfold signalOp wpT
  simp only [semSignalWord, Prog.lift]
  iintro ⟨#HR, HO, Ht, Hp⟩ Hk
  iapply (Rounds.wp_signal 𝒱₀ ER (Rd m) (d : Thread nD τ) none (dst := (pd j d : Thread nD τ)) (κ := K (kBar (pd j d)))
      (d := j) (by rw [duties_bar]; exact Finset.mem_univ _) ((amount_bar m (pd j d) j).trans (by decide)) () O rfl)
    $$ [HO Ht Hp]
  · isplitr; · iapply (recs_inv m K (kBar (pd j d))); iexact HR
    isplitl [HO]; · iexact HO
    isplitl [Ht]; · iexact Ht
    isplitl [Hp]; · rw [payload_bar]; iexact Hp
    iapply (recs_reached m K (kBar (pd j d))); iexact HR
  iintro HO
  rw [wp_ret]; imodintro
  iapply Hk; iexact HO

/-- The barrier wait brings every partner's slots; the barrier's cell is then closed. -/
theorem wp_barWait (W : Waits sig Unit) (Q : PUnit → sProp 𝕄) :
    iprop(recs m K ∗ levAts L lv ∗ owes (d : Thread nD τ) (owe d 32) W ∗ cred (tallyAt (barCell d) () 4) ∗ atPos ER (barCell d) 0 ∅ 0)
      ⊢ iprop((((∃ W', owes (d : Thread nD τ) (owe d 32) W') ∗ semVal (barCell d) 0 ∗ bigSep Finset.univ fun j => barPay d j) -∗ Q ⟨⟩)
          -∗ wpT d (semWaitWord barS 4#32) Q) := by
  unfold wpT
  simp only [semWaitWord, Prog.lift]
  iintro ⟨#HR, #Hlev, HO, Hc, Hat⟩ Hk
  iapply (Rounds.wp_wait_rest_token 𝒱₀ ER (Rd m) (d : Thread nD τ) none (κ := K (kBar d))
      (wpE_semWait_eq 𝒱₀ (d : Thread nD τ) none Set.univ) (Set.mem_univ _) () (O := owe d 32) (W := W) (R := 0) (m := 0) (T := ∅)
      (by rw [expect_bar]; decide)) $$ [Hc HO Hat]
  · isplitr; · iapply (recs_inv m K (kBar d)); iexact HR
    isplitl [Hc]; · iexact Hc
    isplitl [HO]; · iexact HO
    isplitr; · iapply (mayWait_bar d); iexact Hlev
    iexact Hat
  iintro ⟨HO, Hat, -, Hpay⟩
  ihave Hp := (Entails.of_eq (rest_bar m d)) $$ Hpay
  imod (Rounds.cell_close ER (Rd m) (Set.mem_univ (K (kBar d))) (fun h => h) (R := 0 + 1) (duties_later m (barCell d))) $$ [Hat] with Hz
  · isplitr; · iapply (recs_inv m K (kBar d)); iexact HR
    iexact Hat
  rw [wp_ret]; imodintro
  iapply Hk
  isplitl [HO]; · iexists _; iexact HO
  isplitl [Hz] <;> iassumption

/-- A transfer leaves. -/
theorem wp_sendOp (O : CellTallies nD τ sig Unit) (W : Waits sig Unit) (Q : PUnit → sProp 𝕄) :
    iprop(recs m K ∗ rowPts (baseM s.val) d c (baseBuf m s.val d) ∗ (∃ fn, slotPts (pd (jOf s c) d) s c fn)
        ∗ owes (d : Thread nD τ) (O + tallyOf d s c) W ∗ dutyTok ER (sendCell d s c) 0 0 ∗ dutyTok ER (recvCell (pd (jOf s c) d) s c) 0 0)
      ⊢ iprop(((cred (tallyAt (sendCell d s c) () N) ∗ owes (d : Thread nD τ) O W) -∗ Q ⟨⟩) -∗ wpT d (sendOp d s c) Q) := by
  unfold sendOp wpT rowPts slotPts tallyOf
  simp only [Prog.lift]
  iintro ⟨#HR, Hx, ⟨%fn, Hs⟩, HO, Ht1, Ht2⟩ Hk
  iapply (Rounds.wp_send_pointsTo 𝒱₀ ER (Rd m) (d : Thread nD τ) none (κ₁ := K (kSend d s c)) (κ₂ := K (kRecv (pd (jOf s c) d) s c))
      (c' := (pd (jOf s c) d : Thread nD τ)) (src := rowV (baseM s.val) c) (dst := slotV s c) (sS := .dma (sendSem s c)) (sem := .dma (recvSem s c))
      (r₁ := 0) (r₂ := 0) (d₁ := 0) (d₂ := 0) (fs := baseBuf m s.val d) (fd := fn)
      (by rw [duties_send]; exact Finset.mem_singleton_self _) (by rw [duties_recv]; exact Finset.mem_singleton_self _)
      () () N (credit_slot s c) (amount_send m d s c 0) (amount_recv m (pd (jOf s c) d) s c 0) O rfl (W := W)
      (by rw [payload_send]; unfold rowPts; exact BI.Entails.refl _)
      (by rw [payload_recv]; exact Entails.of_eq (landed m s c d fn))) $$ [Hx Hs HO Ht1 Ht2]
  · isplitr; · iapply (recs_inv m K (kSend d s c)); iexact HR
    isplitr; · iapply (recs_inv m K (kRecv (pd (jOf s c) d) s c)); iexact HR
    isplitl [Hx]; · iexact Hx
    isplitl [Hs]; · iexact Hs
    isplitl [HO]; · iexact HO
    isplitl [Ht1]; · iexact Ht1
    isplitr; · iapply (recs_reached m K (kSend d s c)); iexact HR
    isplitl [Ht2]; · iexact Ht2
    iapply (recs_reached m K (kRecv (pd (jOf s c) d) s c)); iexact HR
  iintro ⟨Hc, HO⟩
  rw [wp_ret]; imodintro
  iapply Hk
  isplitl [Hc] <;> iassumption

/-- The sender's wait: the rows are this device's again, and the semaphore is done with. -/
theorem wp_waitSendOp (n : ℕ) (hn : n ≤ 32) (W : Waits sig Unit) (Q : PUnit → sProp 𝕄) :
    iprop(recs m K ∗ levAts L lv ∗ owes (d : Thread nD τ) (owe d n) W ∗ cred (tallyAt (sendCell d s c) () N) ∗ atPos ER (sendCell d s c) 0 ∅ 0)
      ⊢ iprop((((∃ W', owes (d : Thread nD τ) (owe d n) W') ∗ semVal (sendCell d s c) 0 ∗ rowPts (baseM s.val) d c (baseBuf m s.val d)) -∗ Q ⟨⟩)
          -∗ wpT d (waitSendOp s c) Q) := by
  unfold waitSendOp wpT
  simp only [Prog.lift]
  iintro ⟨#HR, #Hlev, HO, Hc, Hat⟩ Hk
  have hN : (rowV (baseM s.val) c).view.dmaCredit = N := credit_base s.val c
  iapply (Rounds.wp_wait_rest_token 𝒱₀ ER (Rd m) (d : Thread nD τ) none (κ := K (kSend d s c))
      (wpE_waitDma2_eq 𝒱₀ (d : Thread nD τ) none Set.univ) (Set.mem_univ _) () (O := owe d n) (W := W) (R := 0) (m := 0) (T := ∅)
      (by rw [Nat.zero_add, expect_send, hN])) $$ [Hc HO Hat]
  · isplitr; · iapply (recs_inv m K (kSend d s c)); iexact HR
    isplitl [Hc]; · rw [hN]; iexact Hc
    isplitl [HO]; · iexact HO
    isplitr; · iapply (mayWait_send d s c n hn); iexact Hlev
    iexact Hat
  iintro ⟨HO, Hat, -, Hpay⟩
  ihave Hp := (Entails.of_eq (rest_send m d s c)) $$ Hpay
  imod (Rounds.cell_close ER (Rd m) (Set.mem_univ (K (kSend d s c))) (fun h => h) (R := 0 + 1) (duties_later m (sendCell d s c))) $$ [Hat] with Hz
  · isplitr; · iapply (recs_inv m K (kSend d s c)); iexact HR
    iexact Hat
  rw [wp_ret]; imodintro
  iapply Hk
  isplitl [HO]; · iexists _; iexact HO
  isplitl [Hz] <;> iassumption

/-- The receiver's wait: the partner's rows have landed, and the semaphore is done with. -/
theorem wp_waitRecvOp (n : ℕ) (hn : n ≤ 32) (h : 8 * s.val + c.val + n < 32) (W : Waits sig Unit) (Q : PUnit → sProp 𝕄) :
    iprop(recs m K ∗ levAts L lv ∗ owes (d : Thread nD τ) (owe d n) W ∗ cred (tallyAt (recvCell d s c) () N) ∗ atPos ER (recvCell d s c) 0 ∅ 0)
      ⊢ iprop((((∃ W', owes (d : Thread nD τ) (owe d n) W') ∗ semVal (recvCell d s c) 0 ∗ slotPts d s c (R m d)) -∗ Q ⟨⟩)
          -∗ wpT d (waitRecvOp s c) Q) := by
  unfold waitRecvOp wpT
  simp only [Prog.lift]
  iintro ⟨#HR, #Hlev, HO, Hc, Hat⟩ Hk
  iapply (Rounds.wp_wait_rest_token 𝒱₀ ER (Rd m) (d : Thread nD τ) none (κ := K (kRecv d s c))
      (wpE_waitDma2_eq 𝒱₀ (d : Thread nD τ) none Set.univ) (Set.mem_univ _) () (O := owe d n) (W := W) (R := 0) (m := 0) (T := ∅)
      (by rw [Nat.zero_add, expect_recv])) $$ [Hc HO Hat]
  · isplitr; · iapply (recs_inv m K (kRecv d s c)); iexact HR
    isplitl [Hc]; · iexact Hc
    isplitl [HO]; · iexact HO
    isplitr; · iapply (mayWait_recv d s c n hn h); iexact Hlev
    iexact Hat
  iintro ⟨HO, Hat, -, Hpay⟩
  ihave Hp := (Entails.of_eq (rest_recv m d s c)) $$ Hpay
  imod (Rounds.cell_close ER (Rd m) (Set.mem_univ (K (kRecv d s c))) (fun h => h) (R := 0 + 1) (duties_later m (recvCell d s c))) $$ [Hat] with Hz
  · isplitr; · iapply (recs_inv m K (kRecv d s c)); iexact HR
    iexact Hat
  rw [wp_ret]; imodintro
  iapply Hk
  isplitl [HO]; · iexists _; iexact HO
  isplitl [Hz] <;> iassumption

/-- The rows a chunk does not read at step `s`: the accumulator's before the first sum, the input's afterwards. -/
def spare (s : ℕ) (d : Dev nD) (c : Fin 8) : sProp 𝕄 :=
  match s with
  | 0 => iprop(∃ f, rowPts aM d c f)
  | _ + 1 => rowPts xM d c (A m 0 d)

/-- The weights' buffer. -/
def wPts (d : Dev nD) : sProp 𝕄 := ((d : Thread nD τ).loc cc0_stg1_0) ↦{fullShare} wstg m d

theorem wp_loadRows (M : Memref sig .tc .vmem S512x256 .f32) (f : Buf (Elt F) (M.view.loc (d : Thread nD τ)))
    (Q : Vec F S64x256 .f32 → sProp 𝕄) :
    rowPts M d c f ⊢ iprop((rowPts M d c f -∗ Q ((rowV M c).view.read (Elt F) f)) -∗ wpT d (loadRows M c) Q) := by
  unfold loadRows wpT rowPts
  simp only [Prog.lift]
  iintro H Hk
  iapply (wp_load_rect 𝒱₀ (d : Thread nD τ) none Set.univ (m := M) (r := rowR c) (S := (rowV M c).view.set) (Finset.Subset.refl _)) $$ H
  iintro H
  rw [wp_ret]; imodintro
  iapply Hk; iexact H

theorem wp_loadSlot (f : Buf (Elt F) (rM.view.loc (d : Thread nD τ))) (Q : Vec F S1x64x256 .f32 → sProp 𝕄) :
    slotPts d s c f ⊢ iprop((slotPts d s c f -∗ Q ((rM.access (slotR s c)).read (Elt F) f)) -∗ wpT d (loadSlot s c) Q) := by
  unfold loadSlot wpT slotPts
  simp only [Prog.lift]
  iintro H Hk
  iapply (wp_load_rect 𝒱₀ (d : Thread nD τ) none Set.univ (m := rM) (r := slotR s c) (S := (slotV s c).view.set)
    (subset_of_eq (View.set_reshape _ _).symm)) $$ H
  iintro H
  rw [wp_ret]; imodintro
  iapply Hk; iexact H

theorem wp_loadW (Q : Vec F S256x256 .f32 → sProp 𝕄) :
    wPts m d ⊢ iprop((wPts m d -∗ Q (wstg m d)) -∗ wpT d loadW Q) := by
  unfold loadW wpT wPts
  simp only [Prog.lift]
  iintro H Hk
  iapply (wp_load 𝒱₀ (d : Thread nD τ) none Set.univ (m := wM) (Finset.subset_univ _)) $$ H
  iintro H
  have hz : (![0, 0] : Fin 2 → Nat) = fun _ => 0 := funext fun a => by fin_cases a <;> rfl
  rw [show wM.view.readAt (Elt F) (Rect.unit (s := S256x256) ![0, 0] S256x256.size inb_S256x256_S256x256_0_0).toLoadRect (wstg m d) = wstg m d
    from Memref.readAt_unit_zero (Elt F) cc0_stg1_0 hz _ (wstg m d)]
  rw [wp_ret]; imodintro
  iapply Hk; iexact H

theorem wp_storeRows (M : Memref sig .tc .vmem S512x256 .f32) (f : Buf (Elt F) (M.view.loc (d : Thread nD τ)))
    (v : FVec F S64x256 .f32) (Q : PUnit → sProp 𝕄) :
    rowPts M d c f ⊢ iprop((((M.access (rowR c)).loc (d : Thread nD τ) ↦[(rowV M c).view.set]{fullShare}
        ((M.access (rowR c)).write (Elt F) f v Finset.univ)) -∗ Q ⟨⟩) -∗ wpT d (storeRows M c v) Q) := by
  unfold storeRows wpT rowPts
  simp only [Prog.lift]
  iintro H Hk
  iapply (wp_store 𝒱₀ (d : Thread nD τ) none Set.univ (m := M) (r := rowR c) (Mk := Finset.univ) (S := (rowV M c).view.set)
    (Finset.Subset.refl _)) $$ H
  iintro H
  rw [wp_ret]; imodintro
  iapply Hk; iexact H

/-- The last two operations of a sum. -/
theorem wp_addTail (f : Buf (Elt F) (aM.view.loc (d : Thread nD τ))) (Q : PUnit → sProp 𝕄) :
    rowPts aM d c f ⊢ iprop((rowPts (baseM (s.val + 1)) d c (baseBuf m (s.val + 1) d) -∗ Q ⟨⟩)
        -∗ wpT d (loadRows aM c >>= fun _ => storeRows aM c
            (sumPay s.val (rowsOf c (A m s.val d)) ((rM.access (slotR s c)).read (Elt F) (R m d)))) Q) := by
  iintro H Hk
  unfold wpT
  rw [wp_bind]
  iapply (wp_loadRows d c aM f) $$ H
  iintro H
  iapply (wp_storeRows d c aM f) $$ H
  iintro H
  iapply Hk
  iapply (Entails.of_eq (summed m s c d f)); iexact H

theorem wp_addOp (Q : PUnit → sProp 𝕄) :
    iprop(rowPts (baseM s.val) d c (baseBuf m s.val d) ∗ spare m s.val d c ∗ slotPts d s c (R m d))
      ⊢ iprop(((rowPts (baseM (s.val + 1)) d c (baseBuf m (s.val + 1) d) ∗ spare m (s.val + 1) d c ∗ slotPts d s c (R m d)) -∗ Q ⟨⟩)
          -∗ wpT d (addOp s c) Q) := by
  iintro ⟨Hb, Hsp, Hs⟩ Hk
  unfold addOp wpT
  rw [wp_bind]
  iapply (wp_loadRows d c (baseM s.val) (baseBuf m s.val d)) $$ Hb
  iintro Hb
  rw [base_read, wp_bind]
  iapply (wp_loadSlot d s c (R m d)) $$ Hs
  iintro Hs
  have htail := fun f => wp_addTail m d s c f Q
  obtain ⟨s, hs⟩ := s
  cases s with
  | zero =>
    unfold spare
    icases Hsp with ⟨%f, Ha⟩
    iapply (htail f) $$ Ha
    iintro Ha
    iapply Hk
    isplitl [Ha]; · iexact Ha
    isplitl [Hb]; · iexact Hb
    iexact Hs
  | succ s =>
    ihave Ha := (Entails.of_eq (show rowPts (baseM (s + 1)) d c (baseBuf m (s + 1) d) = rowPts aM d c (A m (s + 1) d) from rfl)) $$ Hb
    iapply (htail (A m (s + 1) d)) $$ Ha
    iintro Ha
    iapply Hk
    isplitl [Ha]; · iexact Ha
    isplitl [Hsp]; · iexact Hsp
    iexact Hs

theorem wp_dotOp (f : Buf (Elt F) (oM.view.loc (d : Thread nD τ))) (Q : PUnit → sProp 𝕄) :
    iprop(rowPts aM d c (A m 4 d) ∗ wPts m d ∗ rowPts oM d c f)
      ⊢ iprop(((rowPts aM d c (A m 4 d) ∗ wPts m d ∗ rowPts oM d c (O m d)) -∗ Q ⟨⟩) -∗ wpT d (dotOp c) Q) := by
  iintro ⟨Ha, Hw, Ho⟩ Hk
  unfold dotOp wpT
  rw [wp_bind]
  iapply (wp_loadRows d c aM (A m 4 d)) $$ Ha
  iintro Ha
  rw [show (rowV aM c).view.read (Elt F) (A m 4 d) = rowsOf c (A m 4 d) from base_read m 4 d c, wp_bind]
  iapply (wp_loadW m d) $$ Hw
  iintro Hw
  rw [wp_bind]
  iapply (wp_loadRows d c oM f) $$ Ho
  iintro Ho
  iapply (wp_storeRows d c oM f) $$ Ho
  iintro Ho
  iapply Hk
  isplitl [Ha]; · iexact Ha
  isplitl [Hw]; · iexact Hw
  iapply (Entails.of_eq (multiplied m c d f)); iexact Ho

end Ops

end Cert.Hyper
-- ==== Proof.Columns.lean ====
/- The exchange as a whole: the state of each row chunk, how one pass of the loop moves one chunk, and the loops. -/
module

public import proofs.«01_k».proof.Proof.Steps

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

/-- One conjunct of a product is exchanged for another. -/
theorem bigSep_swap {I : Type} [Fintype I] [DecidableEq I] {Φ Ψ : I → sProp 𝕄} (i : I) (h : ∀ j, j ≠ i → Φ j = Ψ j) :
    bigSep Finset.univ Φ ⊢ iprop(Φ i ∗ (Ψ i -∗ bigSep Finset.univ Ψ)) := by
  rw [bigSep_univ_split i (Φ := Φ), bigSep_univ_split i (Φ := Ψ), bigSep_congr fun j hj => h j (Finset.ne_of_mem_erase hj)]
  show iprop(Φ i ∗ bigSep (Finset.univ.erase i) Ψ) ⊢ iprop(Φ i ∗ (Ψ i -∗ iprop(Ψ i ∗ bigSep (Finset.univ.erase i) Ψ)))
  iintro ⟨H, Hr⟩
  isplitl [H]; · iexact H
  iintro H'
  isplitl [H'] <;> iassumption

/-! ## One transfer's resources -/

/-- Still to leave. -/
def Pending (d : Dev nD) (s : Fin 4) (c : Fin 8) : sProp 𝕄 :=
  iprop(atPos ER (sendCell d s c) 0 ∅ 0 ∗ atPos ER (recvCell d s c) 0 ∅ 0 ∗ cred (tallyAt (recvCell d s c) () N)
    ∗ dutyTok ER (sendCell d s c) 0 0 ∗ dutyTok ER (recvCell (pd (jOf s c) d) s c) 0 0 ∗ ∃ fn, slotPts (pd (jOf s c) d) s c fn)
/-- Under way. -/
def Away (d : Dev nD) (s : Fin 4) (c : Fin 8) : sProp 𝕄 :=
  iprop(atPos ER (sendCell d s c) 0 ∅ 0 ∗ atPos ER (recvCell d s c) 0 ∅ 0 ∗ cred (tallyAt (recvCell d s c) () N)
    ∗ cred (tallyAt (sendCell d s c) () N))
/-- Over. -/
def Done (d : Dev nD) (s : Fin 4) (c : Fin 8) : sProp 𝕄 :=
  iprop(semVal (sendCell d s c) 0 ∗ semVal (recvCell d s c) 0 ∗ slotPts d s c (R m d))

/-- A chunk's transfer at step `s` when `q` are over and, if `b`, the next is under way. -/
def item (d : Dev nD) (c : Fin 8) (q : ℕ) (b : Bool) (s : Fin 4) : sProp 𝕄 :=
  if s.val < q then Done m d s c else if b = true ∧ s.val = q then Away d s c else Pending d s c

/-- A chunk with `q` transfers over and none under way, and the same with the next under way. -/
def Ready (d : Dev nD) (c : Fin 8) (q : ℕ) : sProp 𝕄 :=
  iprop(bigSep Finset.univ (item m d c q false) ∗ rowPts (baseM q) d c (baseBuf m q d) ∗ spare m q d c ∗ ∃ f, rowPts oM d c f)
def Flight (d : Dev nD) (c : Fin 8) (q : ℕ) : sProp 𝕄 :=
  iprop(bigSep Finset.univ (item m d c q true) ∗ spare m q d c ∗ ∃ f, rowPts oM d c f)
/-- A finished chunk. -/
def Finished (d : Dev nD) (c : Fin 8) : sProp 𝕄 :=
  iprop((bigSep Finset.univ fun s => Done m d s c) ∗ rowPts aM d c (A m 4 d) ∗ rowPts xM d c (A m 0 d) ∗ rowPts oM d c (O m d))
/-- A chunk as the loop finds it after `q` of its passes. -/
def Col (d : Dev nD) (c : Fin 8) (q : ℕ) : sProp 𝕄 := if q < 4 then Flight m d c q else Finished m d c

section Steps
variable (K : Dev nD × Key → ℕ) (d : Dev nD) (s : Fin 4) (c : Fin 8)

theorem send_chunk (O : CellTallies nD τ sig Unit) (Q : PUnit → sProp 𝕄) :
    iprop(recs m K ∗ (∃ W, owes (d : Thread nD τ) (O + tallyOf d s c) W) ∗ Ready m d c s.val)
      ⊢ iprop((((∃ W, owes (d : Thread nD τ) O W) ∗ Flight m d c s.val) -∗ Q ⟨⟩) -∗ wpT d (sendOp d s c) Q) := by
  unfold Ready Flight
  iintro ⟨#HR, ⟨%W, HO⟩, Hi, Hb, Hsp, Ho⟩ Hk
  ihave Hi := (bigSep_swap (Φ := item m d c s.val false) (Ψ := item m d c s.val true) s fun j hj => by
    unfold item
    rw [if_neg (c := false = true ∧ _) (by simp), if_neg (c := true = true ∧ _) (fun h => hj (Fin.ext h.2))]) $$ Hi
  icases Hi with ⟨Hp, Hback⟩
  ihave Hp := (Entails.of_eq (show item m d c s.val false s = Pending d s c by
    unfold item; rw [if_neg (lt_irrefl _), if_neg (by simp)])) $$ Hp
  unfold Pending
  icases Hp with ⟨H1, H2, H3, Ht1, Ht2, Hs⟩
  iapply (wp_sendOp m K d s c O W) $$ [HO Hb Hs Ht1 Ht2]
  · isplitr; · iexact HR
    isplitl [Hb]; · iexact Hb
    isplitl [Hs]; · iexact Hs
    isplitl [HO]; · iexact HO
    isplitl [Ht1] <;> iassumption
  iintro ⟨Hc, HO⟩
  iapply Hk
  isplitl [HO]; · iexists W; iexact HO
  isplitl [Hback H1 H2 H3 Hc]
  · iapply Hback
    iapply (Entails.of_eq (show Away d s c = item m d c s.val true s by
      unfold item; rw [if_neg (lt_irrefl _), if_pos ⟨rfl, rfl⟩]))
    unfold Away
    isplitl [H1]; · iexact H1
    isplitl [H2]; · iexact H2
    isplitl [H3] <;> iassumption
  isplitl [Hsp] <;> iassumption

/-- The two waits and the sum of one pass. -/
theorem land_chunk (n : ℕ) (hn : n ≤ 32) (h : 8 * s.val + c.val + n < 32) (k : KProg (F := F) PUnit) (Q : PUnit → sProp 𝕄) :
    iprop(recs m K ∗ levAts L lv ∗ (∃ W, owes (d : Thread nD τ) (owe d n) W) ∗ Flight m d c s.val)
      ⊢ iprop((((∃ W, owes (d : Thread nD τ) (owe d n) W) ∗ Ready m d c (s.val + 1)) -∗ wpT d k Q)
          -∗ wpT d (waitSendOp s c >>= fun _ => waitRecvOp s c >>= fun _ => addOp s c >>= fun _ => k) Q) := by
  unfold Ready Flight wpT
  iintro ⟨#HR, #Hlev, ⟨%W, HO⟩, Hi, Hsp, Ho⟩ Hk
  ihave Hi := (bigSep_swap (Φ := item m d c s.val true) (Ψ := item m d c (s.val + 1) false) s fun j hj => by
    have hj' : j.val ≠ s.val := fun e => hj (Fin.ext e)
    unfold item
    rw [if_neg (c := false = true ∧ _) (by simp), if_neg (c := true = true ∧ _) (fun h => hj' h.2)]
    by_cases hlt : j.val < s.val
    · rw [if_pos hlt, if_pos (by omega)]
    · rw [if_neg hlt, if_neg (by omega)]) $$ Hi
  icases Hi with ⟨Hp, Hback⟩
  ihave Hp := (Entails.of_eq (show item m d c s.val true s = Away d s c by
    unfold item; rw [if_neg (lt_irrefl _), if_pos ⟨rfl, rfl⟩])) $$ Hp
  unfold Away
  icases Hp with ⟨H1, H2, H3, H4⟩
  rw [wp_bind]
  iapply (wp_waitSendOp m K d s c n hn W) $$ [HO H1 H4]
  · isplitr; · iexact HR
    isplitr; · iexact Hlev
    isplitl [HO]; · iexact HO
    isplitl [H4] <;> iassumption
  iintro ⟨⟨%W1, HO⟩, Hz1, Hb⟩
  rw [wp_bind]
  iapply (wp_waitRecvOp m K d s c n hn h W1) $$ [HO H2 H3]
  · isplitr; · iexact HR
    isplitr; · iexact Hlev
    isplitl [HO]; · iexact HO
    isplitl [H3] <;> iassumption
  iintro ⟨⟨%W2, HO⟩, Hz2, Hs⟩
  rw [wp_bind]
  iapply (wp_addOp m d s c) $$ [Hb Hsp Hs]
  · isplitl [Hb]; · iexact Hb
    isplitl [Hsp] <;> iassumption
  iintro ⟨Hb, Hsp, Hs⟩
  iapply Hk
  isplitl [HO]; · iexists W2; iexact HO
  isplitl [Hback Hz1 Hz2 Hs]
  · iapply Hback
    iapply (Entails.of_eq (show Done m d s c = item m d c (s.val + 1) false s by
      unfold item; rw [if_pos (Nat.lt_succ_self _)]))
    unfold Done
    isplitl [Hz1]; · iexact Hz1
    isplitl [Hz2] <;> iassumption
  isplitl [Hb]; · iexact Hb
  isplitl [Hsp] <;> iassumption

/-- The product of a chunk whose four transfers are over. -/
theorem dot_chunk (Q : PUnit → sProp 𝕄) :
    iprop(wPts m d ∗ Ready m d c 4) ⊢ iprop(((wPts m d ∗ Finished m d c) -∗ Q ⟨⟩) -∗ wpT d (dotOp c) Q) := by
  unfold Ready Finished
  iintro ⟨Hw, Hi, Hb, Hsp, ⟨%f, Ho⟩⟩ Hk
  ihave Ha := (Entails.of_eq (show rowPts (baseM 4) d c (baseBuf m 4 d) = rowPts aM d c (A m 4 d) from rfl)) $$ Hb
  iapply (wp_dotOp m d c f) $$ [Ha Hw Ho]
  · isplitl [Ha]; · iexact Ha
    isplitl [Hw] <;> iassumption
  iintro ⟨Ha, Hw, Ho⟩
  iapply Hk
  isplitl [Hw]; · iexact Hw
  isplitl [Hi]
  · iapply (Entails.of_eq (bigSep_congr fun s _ => show item m d c 4 false s = Done m d s c by unfold item; rw [if_pos s.isLt])); iexact Hi
  isplitl [Ha]; · iexact Ha
  isplitl [Hsp]; · iapply (Entails.of_eq (show spare m 4 d c = rowPts xM d c (A m 0 d) from rfl)); iexact Hsp
  iexact Ho

/-- One pass of the loop: the chunk moves on by one. `n` counts the passes left, this one included. -/
theorem pass (n : ℕ) (hn : n + 1 ≤ 32) (hs : s = sOf (32 - (n + 1))) (hc : c = cOf (32 - (n + 1))) (Q : PUnit → sProp 𝕄) :
    iprop(recs m K ∗ levAts L lv ∗ (∃ W, owes (d : Thread nD τ) (owe d (n + 1 - 8)) W) ∗ wPts m d ∗ Col m d c s.val)
      ⊢ iprop((((∃ W, owes (d : Thread nD τ) (owe d (n - 8)) W) ∗ wPts m d ∗ Col m d c (s.val + 1)) -∗ Q ⟨⟩)
          -∗ wpT d (chunkOp d s c) Q) := by
  have hsv : s.val = (32 - (n + 1)) / 8 := by rw [hs]; dsimp only [sOf]; omega
  have hcv : c.val = (32 - (n + 1)) % 8 := by rw [hc]; rfl
  unfold Col
  rw [if_pos s.isLt]
  iintro ⟨#HR, #Hlev, HO, Hw, HF⟩ Hk
  unfold chunkOp
  iapply (land_chunk m K d s c (n + 1 - 8) (by omega) (by omega) (nextOp d s c)) $$ [HO HF]
  · isplitr; · iexact HR
    isplitr; · iexact Hlev
    isplitl [HO] <;> iassumption
  iintro ⟨HO, HF⟩
  unfold nextOp
  by_cases h : s.val + 1 < 4
  · rw [dif_pos h, if_pos h]
    have e : owe d (n + 1 - 8) = owe d (n - 8) + tallyOf d ⟨s.val + 1, h⟩ c := by
      obtain ⟨k, hk⟩ : ∃ k, n = k + 8 := ⟨n - 8, by omega⟩
      have e1 : n + 1 - 8 = k + 1 := by omega
      have e2 : n - 8 = k := by omega
      rw [e1, e2]
      have e3 : sOf (32 - (k + 1)) = ⟨s.val + 1, h⟩ := Fin.ext (by dsimp only [sOf]; omega)
      have e4 : cOf (32 - (k + 1)) = c := Fin.ext (by dsimp only [cOf]; omega)
      show owe d k + tallyOf d (sOf (32 - (k + 1))) (cOf (32 - (k + 1))) = _
      rw [e3, e4]
    rw [e]
    iapply (send_chunk m K d ⟨s.val + 1, h⟩ c (owe d (n - 8))) $$ [HO HF]
    · isplitr; · iexact HR
      isplitl [HO] <;> iassumption
    iintro ⟨HO, HF⟩
    iapply Hk
    isplitl [HO]; · iexact HO
    isplitl [Hw] <;> iassumption
  · rw [dif_neg h, if_neg h]
    have e : owe d (n + 1 - 8) = owe d (n - 8) := by
      rw [show n + 1 - 8 = 0 by omega, show n - 8 = 0 by omega]
    have e4 : s.val + 1 = 4 := by omega
    rw [e, e4]
    iapply (dot_chunk m d c) $$ [Hw HF]
    · isplitl [Hw] <;> iassumption
    iintro ⟨Hw, HF⟩
    iapply Hk
    isplitl [HO]; · iexact HO
    isplitl [Hw] <;> iassumption

/-! ## The loops -/

/-- All chunks, `n` passes before the end. -/
def Cols (n : ℕ) : sProp 𝕄 := bigSep Finset.univ fun c : Fin 8 => Col m d c ((39 - n - c.val) / 8)

theorem loop (Q : PUnit → sProp 𝕄) : ∀ n, n ≤ 32 →
    iprop(recs m K ∗ levAts L lv ∗ (∃ W, owes (d : Thread nD τ) (owe d (n - 8)) W) ∗ wPts m d ∗ Cols m d n)
      ⊢ iprop((((∃ W, owes (d : Thread nD τ) 0 W) ∗ wPts m d ∗ Cols m d 0) -∗ Q ⟨⟩) -∗ wpT d (chunks d n) Q)
  | 0, _ => by
      iintro ⟨-, -, HO, Hw, HC⟩ Hk
      unfold wpT chunks
      rw [Prog.pure_eq_ret, wp_ret]; imodintro
      iapply Hk
      isplitl [HO]; · iexact HO
      isplitl [Hw] <;> iassumption
  | n + 1, hn => by
      have hv : (cOf (32 - (n + 1))).val = (32 - (n + 1)) % 8 := rfl
      have hq : (39 - (n + 1) - (cOf (32 - (n + 1))).val) / 8 = (sOf (32 - (n + 1))).val := by rw [hv]; dsimp only [sOf]; omega
      have hq' : (39 - n - (cOf (32 - (n + 1))).val) / 8 = (sOf (32 - (n + 1))).val + 1 := by rw [hv]; dsimp only [sOf]; omega
      iintro ⟨#HR, #Hlev, HO, Hw, HC⟩ Hk
      unfold Cols
      ihave HC := (bigSep_swap (Φ := fun c : Fin 8 => Col m d c ((39 - (n + 1) - c.val) / 8))
        (Ψ := fun c : Fin 8 => Col m d c ((39 - n - c.val) / 8)) (cOf (32 - (n + 1))) fun j hj => by
          have hj' : j.val ≠ (32 - (n + 1)) % 8 := fun e => hj (Fin.ext e)
          have := j.isLt
          congr 1
          omega) $$ HC
      icases HC with ⟨HF, Hback⟩
      rw [hq, hq']
      rw [show chunks (F := F) d (n + 1) = (chunkOp d (sOf (32 - (n + 1))) (cOf (32 - (n + 1))) >>= fun _ => chunks d n) from rfl]
      unfold wpT
      rw [wp_bind]
      iapply (pass m K d (sOf (32 - (n + 1))) (cOf (32 - (n + 1))) n hn rfl rfl) $$ [HO Hw HF]
      · isplitr; · iexact HR
        isplitr; · iexact Hlev
        isplitl [HO]; · iexact HO
        isplitl [Hw] <;> iassumption
      iintro ⟨HO, Hw, HF⟩
      iapply (loop Q n (by omega)) $$ [HO Hw HF Hback]
      · isplitr; · iexact HR
        isplitr; · iexact Hlev
        isplitl [HO]; · iexact HO
        isplitl [Hw]; · iexact Hw
        unfold Cols
        iapply Hback; iexact HF
      iexact Hk

/-- All chunks when the last `n` first transfers are still to leave. -/
def Starts (n : ℕ) : sProp 𝕄 := bigSep Finset.univ fun c : Fin 8 => if c.val + n < 8 then Flight m d c 0 else Ready m d c 0

theorem starts (k : KProg (F := F) PUnit) (Q : PUnit → sProp 𝕄) : ∀ n, n ≤ 8 →
    iprop(recs m K ∗ (∃ W, owes (d : Thread nD τ) (owe d (24 + n)) W) ∗ Starts m d n)
      ⊢ iprop((((∃ W, owes (d : Thread nD τ) (owe d 24) W) ∗ Starts m d 0) -∗ wpT d k Q)
          -∗ wpT d (firstSends d n >>= fun _ => k) Q)
  | 0, _ => by
      iintro ⟨-, HO, HC⟩ Hk
      unfold firstSends
      rw [Prog.pure_eq_ret, Prog.bind_ret]
      iapply Hk
      isplitl [HO] <;> iassumption
  | n + 1, hn => by
      have hv : (cOf (8 - (n + 1))).val = 8 - (n + 1) := by dsimp only [cOf]; omega
      iintro ⟨#HR, HO, HC⟩ Hk
      unfold Starts
      ihave HC := (bigSep_swap (Φ := fun c : Fin 8 => if c.val + (n + 1) < 8 then Flight m d c 0 else Ready m d c 0)
        (Ψ := fun c : Fin 8 => if c.val + n < 8 then Flight m d c 0 else Ready m d c 0) (cOf (8 - (n + 1))) fun j hj => by
          have hj' : j.val ≠ 8 - (n + 1) := fun e => hj (Fin.ext (by rw [hv]; exact e))
          by_cases h : j.val + (n + 1) < 8
          · rw [if_pos h, if_pos (by omega)]
          · rw [if_neg h, if_neg (by omega)]) $$ HC
      rw [if_neg (by rw [hv]; omega), if_pos (by rw [hv]; omega)]
      icases HC with ⟨HF, Hback⟩
      have e : owe d (24 + (n + 1)) = owe d (24 + n) + tallyOf d 0 (cOf (8 - (n + 1))) := by
        have e3 : sOf (32 - (24 + n + 1)) = 0 := Fin.ext (by show (32 - (24 + n + 1)) / 8 % 4 = 0; omega)
        have e4 : cOf (32 - (24 + n + 1)) = cOf (8 - (n + 1)) := by congr 1; omega
        show owe d (24 + n) + tallyOf d (sOf (32 - (24 + n + 1))) (cOf (32 - (24 + n + 1))) = _
        rw [e3, e4]
      rw [e]
      rw [show firstSends (F := F) d (n + 1) = (sendOp d 0 (cOf (8 - (n + 1))) >>= fun _ => firstSends d n) from rfl]
      unfold wpT
      rw [wp_bind, wp_bind]
      iapply (send_chunk m K d 0 (cOf (8 - (n + 1))) (owe d (24 + n))) $$ [HO HF]
      · isplitr; · iexact HR
        isplitl [HO]; · iexact HO
        iexact HF
      iintro ⟨HO, HF⟩
      rw [← wp_bind]
      iapply (starts k Q n (by omega)) $$ [HO HF Hback]
      · isplitr; · iexact HR
        isplitl [HO]; · iexact HO
        unfold Starts
        iapply Hback; iexact HF
      iexact Hk

end Steps

end Cert.Hyper
-- ==== Proof.Exchange.lean ====
/- The whole body: a device's buffers cut into row chunks and slots, the entry barrier, the loops, and the buffers whole again. -/
module

public import proofs.«01_k».proof.Proof.Columns

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole buffers and their parts -/

theorem rows_disjoint (c c' : Fin 8) (h : c ≠ c') : Disjoint (rowR c).set (rowR c').set := by
  have : c.val ≠ c'.val := fun e => h (Fin.ext e)
  exact Rect.unit_disjoint 0 (by show 64 * c.val + 64 ≤ 64 * c'.val ∨ 64 * c'.val + 64 ≤ 64 * c.val; omega)

theorem rows_cover : (Finset.univ : Finset (Fin 8)).biUnion (fun c => (rowR c).set) = Finset.univ := by
  refine Finset.eq_univ_of_forall fun i => ?_
  obtain ⟨x, y, rfl⟩ : ∃ x : Fin 512, ∃ y : Fin 256, i = ix2 x y := ⟨i 0, i 1, eq_ix2 i⟩
  refine Finset.mem_biUnion.mpr ⟨⟨x.val / 64, by omega⟩, Finset.mem_univ _, Rect.mem_set_unit.mpr fun a => ?_⟩
  match a with
  | ⟨0, _⟩ => show 64 * (x.val / 64) ≤ x.val ∧ x.val < 64 * (x.val / 64) + 64; omega
  | ⟨1, _⟩ => show 0 ≤ y.val ∧ y.val < 0 + 256; omega

theorem slots_disjoint (p p' : Fin 4 × Fin 8) (h : p ≠ p') : Disjoint (slotR p.1 p.2).set (slotR p'.1 p'.2).set := by
  by_cases hs : p.1.val = p'.1.val
  · have : p.2.val ≠ p'.2.val := fun e => h (Prod.ext (Fin.ext hs) (Fin.ext e))
    exact Rect.unit_disjoint 1 (by show 64 * p.2.val + 64 ≤ 64 * p'.2.val ∨ 64 * p'.2.val + 64 ≤ 64 * p.2.val; omega)
  · exact Rect.unit_disjoint 0 (by show p.1.val + 1 ≤ p'.1.val ∨ p'.1.val + 1 ≤ p.1.val; omega)

theorem slots_cover : (Finset.univ : Finset (Fin 4 × Fin 8)).biUnion (fun p => (slotR p.1 p.2).set) = Finset.univ := by
  refine Finset.eq_univ_of_forall fun i => ?_
  obtain ⟨s, x, y, rfl⟩ : ∃ s : Fin 4, ∃ x : Fin 512, ∃ y : Fin 256, i = ix3 s x y := ⟨i 0, i 1, i 2, eq_ix3 i⟩
  refine Finset.mem_biUnion.mpr ⟨(s, ⟨x.val / 64, by omega⟩), Finset.mem_univ _, Rect.mem_set_unit.mpr fun a => ?_⟩
  match a with
  | ⟨0, _⟩ => show s.val ≤ s.val ∧ s.val < s.val + 1; omega
  | ⟨1, _⟩ => show 64 * (x.val / 64) ≤ x.val ∧ x.val < 64 * (x.val / 64) + 64; omega
  | ⟨2, _⟩ => show 0 ≤ y.val ∧ y.val < 0 + 256; omega

theorem x_rows (d : Dev nD) (f : Buf (Elt F) ((d : Thread nD τ).loc cc0_stg0_0)) :
    (((d : Thread nD τ).loc cc0_stg0_0) ↦{fullShare} f : sProp 𝕄) = bigSep Finset.univ fun c => rowPts xM d c f := by
  rw [← rows_cover, pointsTo_biUnion _ _ (fun c _ c' _ h => rows_disjoint c c' h)]
  exact bigSep_congr fun c _ => by unfold rowPts; rw [show (rowV xM c).view.set = (rowR c).set from View.set_slice_whole _ _]
theorem a_rows (d : Dev nD) (f : Buf (Elt F) ((d : Thread nD τ).loc cc0_scratch0)) :
    (((d : Thread nD τ).loc cc0_scratch0) ↦{fullShare} f : sProp 𝕄) = bigSep Finset.univ fun c => rowPts aM d c f := by
  rw [← rows_cover, pointsTo_biUnion _ _ (fun c _ c' _ h => rows_disjoint c c' h)]
  exact bigSep_congr fun c _ => by unfold rowPts; rw [show (rowV aM c).view.set = (rowR c).set from View.set_slice_whole _ _]
theorem o_rows (d : Dev nD) (f : Buf (Elt F) ((d : Thread nD τ).loc cc0_stg2_0)) :
    (((d : Thread nD τ).loc cc0_stg2_0) ↦{fullShare} f : sProp 𝕄) = bigSep Finset.univ fun c => rowPts oM d c f := by
  rw [← rows_cover, pointsTo_biUnion _ _ (fun c _ c' _ h => rows_disjoint c c' h)]
  exact bigSep_congr fun c _ => by unfold rowPts; rw [show (rowV oM c).view.set = (rowR c).set from View.set_slice_whole _ _]
theorem r_slots (d : Dev nD) (f : Buf (Elt F) ((d : Thread nD τ).loc cc0_scratch1)) :
    (((d : Thread nD τ).loc cc0_scratch1) ↦{fullShare} f : sProp 𝕄)
      = bigSep Finset.univ fun s => bigSep Finset.univ fun c => slotPts d s c f := by
  rw [← slots_cover, pointsTo_biUnion _ _ (fun p _ p' _ h => slots_disjoint p p' h), bigSep_univ_prod]
  exact bigSep_congr fun s _ => bigSep_congr fun c _ => by
    unfold slotPts
    rw [show (slotV s c).view.set = (slotR s c).set from (View.set_reshape _ _).trans (View.set_slice_whole _ _)]

/-! ## Slots by partner -/

/-- Counting the slots by partner is counting them by step. -/
theorem by_partner (G : Fin 4 → Fin 8 → sProp 𝕄) :
    (bigSep Finset.univ fun j => bigSep Finset.univ fun c => G (sj j c) c) = bigSep Finset.univ fun s => bigSep Finset.univ fun c => G s c := by
  rw [bigSep_univ_comm, bigSep_univ_comm (fun s c => G s c)]
  exact bigSep_congr fun c _ => (bigSep_univ_equiv (stepE c).symm (fun s => G s c)).symm

theorem own_slots (d : Dev nD) :
    (bigSep Finset.univ fun s => bigSep Finset.univ fun c => iprop(∃ f, slotPts d s c f) : sProp 𝕄)
      = bigSep Finset.univ fun j => barPay (pd j d) j := by
  rw [← by_partner]
  exact bigSep_congr fun j _ => by unfold barPay; rw [pd_pd]

theorem partner_slots (d : Dev nD) :
    (bigSep Finset.univ fun j => barPay d j : sProp 𝕄)
      = bigSep Finset.univ fun s => bigSep Finset.univ fun c => iprop(∃ f, slotPts (pd (jOf s c) d) s c f) := by
  rw [← by_partner]
  exact bigSep_congr fun j _ => by
    unfold barPay
    exact bigSep_congr fun c _ => by rw [jOf_sj]

/-! ## The barrier -/

section Barrier
variable (K : Dev nD × Key → ℕ) (d : Dev nD)

/-- The tokens and slots of the last `n` signals. -/
def Signals (n : ℕ) : sProp 𝕄 :=
  bigSep Finset.univ fun j : Fin 4 => if j.val + n < 4 then iprop(emp) else iprop(dutyTok ER (barCell (pd j d)) 0 j ∗ barPay (pd j d) j)

theorem signalling (k : KProg (F := F) PUnit) (Q : PUnit → sProp 𝕄) : ∀ n, n ≤ 4 →
    iprop(recs m K ∗ (∃ W, owes (d : Thread nD τ) (oweBar d n) W) ∗ Signals d n)
      ⊢ iprop(((∃ W, owes (d : Thread nD τ) (owe d 32) W) -∗ wpT d k Q) -∗ wpT d (signals d n >>= fun _ => k) Q)
  | 0, _ => by
      iintro ⟨-, HO, -⟩ Hk
      unfold signals
      rw [Prog.pure_eq_ret, Prog.bind_ret]
      iapply Hk
      iexact HO
  | n + 1, hn => by
      have hv : (jN (4 - (n + 1)) 0).val = 4 - (n + 1) := by dsimp only [jN]; omega
      iintro ⟨#HR, ⟨%W, HO⟩, HS⟩ Hk
      unfold Signals
      ihave HS := (bigSep_swap
        (Φ := fun j : Fin 4 => if j.val + (n + 1) < 4 then iprop(emp) else iprop(dutyTok ER (barCell (pd j d)) 0 j ∗ barPay (pd j d) j))
        (Ψ := fun j : Fin 4 => if j.val + n < 4 then iprop(emp) else iprop(dutyTok ER (barCell (pd j d)) 0 j ∗ barPay (pd j d) j))
        (jN (4 - (n + 1)) 0) fun j hj => by
          have hj' : j.val ≠ 4 - (n + 1) := fun e => hj (Fin.ext (by rw [hv]; exact e))
          by_cases h : j.val + (n + 1) < 4
          · rw [if_pos h, if_pos (by omega)]
          · rw [if_neg h, if_neg (by omega)]) $$ HS
      rw [if_neg (by rw [hv]; omega), if_pos (by rw [hv]; omega)]
      icases HS with ⟨⟨Ht, Hp⟩, Hback⟩
      rw [show signals (F := F) d (n + 1) = (signalOp d (jN (4 - (n + 1)) 0) >>= fun _ => signals d n) from rfl]
      unfold wpT
      rw [wp_bind, wp_bind]
      iapply (wp_signalOp m K d (jN (4 - (n + 1)) 0) (oweBar d n) W) $$ [HO Ht Hp]
      · isplitr; · iexact HR
        isplitl [HO]; · iexact HO
        isplitl [Ht] <;> iassumption
      iintro HO
      rw [← wp_bind]
      iapply (signalling k Q n (by omega)) $$ [HO Hback]
      · isplitr; · iexact HR
        isplitl [HO]; · iexists W; iexact HO
        unfold Signals
        iapply Hback; iempintro
      iexact Hk

/-! ## The body -/

/-- The exchange's ghost state a device starts from. -/
def ghost : sProp 𝕄 :=
  iprop(recs m K ∗ atPos ER (barCell d) 0 ∅ 0 ∗ (bigSep Finset.univ fun j => dutyTok ER (barCell (pd j d)) 0 j)
    ∗ bigSep Finset.univ fun s => bigSep Finset.univ fun c =>
        iprop(atPos ER (sendCell d s c) 0 ∅ 0 ∗ atPos ER (recvCell d s c) 0 ∅ 0 ∗ dutyTok ER (sendCell d s c) 0 0
          ∗ dutyTok ER (recvCell (pd (jOf s c) d) s c) 0 0))

/-- The credit it starts from. -/
def credits : sProp 𝕄 :=
  iprop(cred (tallyAt (barCell d) () 4) ∗ bigSep Finset.univ fun s => bigSep Finset.univ fun c => cred (tallyAt (recvCell d s c) () N))

/-- Its two scratch buffers. -/
def scratch : sProp 𝕄 :=
  iprop((∃ f, ((d : Thread nD τ).loc cc0_scratch0) ↦{fullShare} f) ∗ (∃ f, ((d : Thread nD τ).loc cc0_scratch1) ↦{fullShare} f))

/-- What it ends with besides its staged buffers: its scratch buffers and every semaphore at zero. -/
def Φ₁ : sProp 𝕄 :=
  iprop(scratch d ∗ semVal (barCell d) 0
    ∗ bigSep Finset.univ fun s => bigSep Finset.univ fun c => iprop(semVal (sendCell d s c) 0 ∗ semVal (recvCell d s c) 0))

theorem body_run (Q : PUnit → sProp 𝕄) (g : Buf (Elt F) ((d : Thread nD τ).loc cc0_stg2_0)) :
    iprop(ghost m K d ∗ credits d ∗ levAts L lv ∗ scratch d ∗ (∃ W, owes (d : Thread nD τ) (oweBar d 4) W)
        ∗ (((d : Thread nD τ).loc cc0_stg0_0) ↦{fullShare} xstg m d) ∗ wPts m d ∗ (((d : Thread nD τ).loc cc0_stg2_0) ↦{fullShare} g))
      ⊢ iprop(((Φ₁ d ∗ (∃ W, owes (d : Thread nD τ) 0 W)
          ∗ (((d : Thread nD τ).loc cc0_stg0_0) ↦{fullShare} xstg m d) ∗ wPts m d ∗ (((d : Thread nD τ).loc cc0_stg2_0) ↦{fullShare} O m d)) -∗ Q ⟨⟩)
        -∗ wpT d bodyProg Q) := by
  unfold ghost credits scratch
  iintro ⟨⟨#HR, HaB, HtB, HG⟩, ⟨HcB, HcV⟩, #Hlev, ⟨⟨%fa, Ha⟩, ⟨%fr, Hr⟩⟩, HO, Hx, Hw, Ho⟩ Hk
  -- the buffers in parts
  ihave Hx := (Entails.of_eq (x_rows d (xstg m d))) $$ Hx
  ihave Ha := (Entails.of_eq (a_rows d fa)) $$ Ha
  ihave Ho := (Entails.of_eq (o_rows d g)) $$ Ho
  ihave Hr := (Entails.of_eq (r_slots d fr)) $$ Hr
  ihave Hr := (show (bigSep Finset.univ fun s => bigSep Finset.univ fun c => slotPts d s c fr : sProp 𝕄)
      ⊢ bigSep Finset.univ fun j => barPay (pd j d) j from
    (bigSep_mono fun s _ => bigSep_mono fun c _ => by
      show slotPts d s c fr ⊢ iprop(∃ f, slotPts d s c f)
      iintro H; iexists fr; iexact H).trans (Entails.of_eq (own_slots d))) $$ Hr
  unfold bodyProg wpT
  simp only [Prog.lift, Prog.bind_op, Prog.bind_ret, wp_deviceId]
  iapply (signalling m K d (semWaitWord barS 4#32 >>= fun _ => firstSends d 8 >>= fun _ => chunks d 32) Q 4 le_rfl) $$ [HO HtB Hr]
  · isplitr; · iexact HR
    isplitl [HO]; · iexact HO
    unfold Signals
    iapply (Entails.of_eq (bigSep_congr (Φ := fun j : Fin 4 => iprop(dutyTok ER (barCell (pd j d)) 0 j ∗ barPay (pd j d) j)) fun j _ =>
      (if_neg (show ¬ j.val + 4 < 4 by omega)).symm))
    rw [bigSep_sep']
    isplitl [HtB] <;> iassumption
  iintro ⟨%W, HO⟩
  unfold wpT
  rw [wp_bind]
  iapply (wp_barWait m K d W) $$ [HO HcB HaB]
  · isplitr; · iexact HR
    isplitr; · iexact Hlev
    isplitl [HO]; · iexact HO
    isplitl [HcB] <;> iassumption
  iintro ⟨HO, HzB, Hs⟩
  ihave Hs := (Entails.of_eq (partner_slots d)) $$ Hs
  -- every chunk ready for its first transfer
  iapply (starts m K d (chunks d 32) Q 8 le_rfl) $$ [HO HG HcV Hs Hx Ha Ho]
  · isplitr; · iexact HR
    isplitl [HO]; · iexact HO
    unfold Starts
    iapply (Entails.of_eq (bigSep_congr (Φ := fun c : Fin 8 => Ready m d c 0) fun c _ =>
      (if_neg (show ¬ c.val + 8 < 8 by omega)).symm))
    iapply (Entails.of_eq (show iprop((bigSep Finset.univ fun s => bigSep Finset.univ fun c => item m d c 0 false s)
        ∗ (bigSep Finset.univ fun c => rowPts xM d c (xstg m d)) ∗ (bigSep Finset.univ fun c => spare m 0 d c)
        ∗ bigSep Finset.univ fun c => iprop(∃ f, rowPts oM d c f)) = bigSep Finset.univ fun c => Ready m d c 0 by
      unfold Ready
      rw [bigSep_sep', bigSep_sep', bigSep_sep', bigSep_univ_comm]
      rfl))
    isplitl [HG HcV Hs]
    · iapply (show iprop((bigSep Finset.univ fun s => bigSep Finset.univ fun c =>
            iprop(atPos ER (sendCell d s c) 0 ∅ 0 ∗ atPos ER (recvCell d s c) 0 ∅ 0 ∗ dutyTok ER (sendCell d s c) 0 0
              ∗ dutyTok ER (recvCell (pd (jOf s c) d) s c) 0 0))
          ∗ (bigSep Finset.univ fun s => bigSep Finset.univ fun c => cred (tallyAt (recvCell d s c) () N))
          ∗ (bigSep Finset.univ fun s => bigSep Finset.univ fun c => iprop(∃ f, slotPts (pd (jOf s c) d) s c f)))
        ⊢ (bigSep Finset.univ fun s => bigSep Finset.univ fun c => item m d c 0 false s : sProp 𝕄) by
          simp only [← bigSep_sep']
          refine bigSep_mono fun s _ => bigSep_mono fun c _ => ?_
          rw [show item m d c 0 false s = Pending d s c by unfold item; rw [if_neg (Nat.not_lt_zero _), if_neg (by simp)]]
          unfold Pending
          show iprop((atPos ER (sendCell d s c) 0 ∅ 0 ∗ atPos ER (recvCell d s c) 0 ∅ 0 ∗ dutyTok ER (sendCell d s c) 0 0
              ∗ dutyTok ER (recvCell (pd (jOf s c) d) s c) 0 0) ∗ cred (tallyAt (recvCell d s c) () N)
              ∗ ∃ f, slotPts (pd (jOf s c) d) s c f) ⊢ _
          iintro ⟨⟨H1, H2, H3, H4⟩, H5, H6⟩
          isplitl [H1]; · iexact H1
          isplitl [H2]; · iexact H2
          isplitl [H5]; · iexact H5
          isplitl [H3]; · iexact H3
          isplitl [H4] <;> iassumption)
      isplitl [HG]; · iexact HG
      isplitl [HcV] <;> iassumption
    isplitl [Hx]; · iexact Hx
    isplitl [Ha]
    · iapply (show (bigSep Finset.univ fun c => rowPts aM d c fa) ⊢ (bigSep Finset.univ fun c => spare m 0 d c : sProp 𝕄) from
        bigSep_mono fun c _ => show rowPts aM d c fa ⊢ spare m 0 d c by
        unfold spare; iintro H; iexists fa; iexact H)
      iexact Ha
    iapply (show (bigSep Finset.univ fun c => rowPts oM d c g) ⊢ (bigSep Finset.univ fun c => iprop(∃ f, rowPts oM d c f) : sProp 𝕄) from
      bigSep_mono fun c _ => show rowPts oM d c g ⊢ iprop(∃ f, rowPts oM d c f) by
      iintro H; iexists g; iexact H)
    iexact Ho
  iintro ⟨HO, HC⟩
  ihave HC := (Entails.of_eq (show Starts m d 0 = Cols m d 32 from bigSep_congr fun c _ => by
    rw [if_pos (show c.val + 0 < 8 by omega), show (39 - 32 - c.val) / 8 = 0 by omega]; exact (if_pos (by decide)).symm)) $$ HC
  iapply (loop m K d Q 32 le_rfl) $$ [HO Hw HC]
  · isplitr; · iexact HR
    isplitr; · iexact Hlev
    isplitl [HO]; · iexact HO
    isplitl [Hw] <;> iassumption
  iintro ⟨HO, Hw, HC⟩
  -- the buffers whole again
  ihave HC := (Entails.of_eq (show Cols m d 0 = bigSep Finset.univ fun c => Finished m d c from bigSep_congr fun c _ => by
    unfold Col; exact if_neg (by omega))) $$ HC
  unfold Finished
  simp only [bigSep_sep']
  icases HC with ⟨HD, Ha, Hx, Ho⟩
  unfold Done
  ihave HD := (Entails.of_eq (bigSep_univ_comm _)) $$ HD
  ihave HD := (show (bigSep Finset.univ fun s => bigSep Finset.univ fun c =>
      iprop(semVal (sendCell d s c) 0 ∗ semVal (recvCell d s c) 0 ∗ slotPts d s c (R m d)) : sProp 𝕄)
      ⊢ iprop((bigSep Finset.univ fun s => bigSep Finset.univ fun c => iprop(semVal (sendCell d s c) 0 ∗ semVal (recvCell d s c) 0))
        ∗ bigSep Finset.univ fun s => bigSep Finset.univ fun c => slotPts d s c (R m d)) by
    simp only [← bigSep_sep']
    refine bigSep_mono fun s _ => bigSep_mono fun c _ => ?_
    show iprop(semVal (sendCell d s c) 0 ∗ semVal (recvCell d s c) 0 ∗ slotPts d s c (R m d))
      ⊢ iprop((semVal (sendCell d s c) 0 ∗ semVal (recvCell d s c) 0) ∗ slotPts d s c (R m d))
    iintro ⟨H1, H2, H3⟩
    isplitr [H3]
    · isplitl [H1] <;> iassumption
    iexact H3) $$ HD
  icases HD with ⟨HD, Hr⟩
  iapply Hk
  unfold Φ₁ scratch
  isplitl [Ha Hr HzB HD]
  · isplitl [Ha Hr]
    · isplitl [Ha]
      · iexists _; iapply (Entails.of_eq (a_rows d (A m 4 d)).symm); iexact Ha
      iexists _; iapply (Entails.of_eq (r_slots d (R m d)).symm); iexact Hr
    isplitl [HzB] <;> iassumption
  isplitl [HO]; · iexact HO
  isplitl [Hx]; · iapply (Entails.of_eq (x_rows d (xstg m d)).symm); iexact Hx
  isplitl [Hw]; · iexact Hw
  iapply (Entails.of_eq (o_rows d (O m d)).symm); iexact Ho

end Barrier

end Cert.Hyper
-- ==== Proof.Launch.lean ====
/- The launch: the ghost state and the credit dealt to the sixteen devices, and the run of the whole program. -/
module

public import proofs.«01_k».proof.Proof.Exchange
public import Idealize.ShloMosaic.Lib.Pipeline.CollectiveSegs

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The body's obligation -/

def start (d : Dev nD) : sProp 𝕄 := iprop((∃ K, ghost m K d) ∗ credits d ∗ levAts L lv)

def Φ₀ (d : Dev nD) : sProp 𝕄 := iprop(start m d ∗ scratch d)

def dats (_ : Fin 1) (d : Dev nD) : Dat τ (Elt F) Unit ℕ UU ℕ cfg0 d where
  A w := m ((cfg0.win w).arr.view.loc (d : Thread nD τ))
  after w _ := match w with
    | ⟨0, _⟩ => xstg m d
    | ⟨1, _⟩ => wstg m d
    | ⟨2, _⟩ => O m d
  Φ t := match t with
    | ⟨0, _⟩ => Φ₀ m d
    | ⟨_ + 1, _⟩ => Φ₁ d
  q _ := fullShare
  owed t := match t with
    | ⟨0, _⟩ => oweBar d 4
    | ⟨_ + 1, _⟩ => 0

theorem owns_whole_eq (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

def bodyPre (d : Dev nD) : sProp 𝕄 :=
  iprop(Φ₀ m d ∗ (dats m 0 d).owesAt () t0_0.castSucc
    ∗ (∃ g, stg d cc0_stg0_0 ((dats m 0 d).before (0 : Fin 3) t0_0 g))
    ∗ (∃ g, stg d cc0_stg1_0 ((dats m 0 d).before (1 : Fin 3) t0_0 g))
    ∗ (∃ g, stg d cc0_stg2_0 ((dats m 0 d).before (2 : Fin 3) t0_0 g)))

def bodyPost (d : Dev nD) : sProp 𝕄 :=
  iprop(Φ₁ d ∗ (dats m 0 d).owesAt () t0_0.succ ∗ stg d cc0_stg0_0 (xstg m d) ∗ stg d cc0_stg1_0 (wstg m d) ∗ stg d cc0_stg2_0 (O m d))

theorem before_x (d : Dev nD) (g) : (dats m 0 d).before (0 : Fin 3) t0_0 g = xstg m d := by
  unfold Dat.before; rw [if_pos (fetch0_0 t0_0)]; rfl
theorem before_w (d : Dev nD) (g) : (dats m 0 d).before (1 : Fin 3) t0_0 g = wstg m d := by
  unfold Dat.before; rw [if_pos (fetch0_1 t0_0)]; rfl

theorem sound_body (d : Dev nD) : bodyPre m d ⊢ wpT d bodyProg (fun _ => bodyPost m d) := by
  unfold bodyPre Φ₀ start Dat.owesAt Pipeline.owesWithin
  iintro ⟨⟨⟨⟨%K, Hg⟩, Hc, Hlev⟩, Hs⟩, ⟨%W, %hW, HO⟩, ⟨%d0, %g0, %hg0, Hx⟩, ⟨%d1, %g1, %hg1, Hw⟩, ⟨%d2, %g2, %hg2, Ho⟩⟩
  rw [before_x] at hg0
  rw [before_w] at hg1
  subst hg0
  subst hg1
  rw [show (dats m 0 d).owed t0_0.castSucc = oweBar d 4 from rfl]
  iapply (body_run m K d (fun _ => bodyPost m d) g2) $$ [Hg Hc Hlev Hs HO Hx Hw Ho]
  · isplitl [Hg]; · iexact Hg
    isplitl [Hc]; · iexact Hc
    isplitl [Hlev]; · iexact Hlev
    isplitl [Hs]; · iexact Hs
    isplitl [HO]; · iexists W; iexact HO
    isplitl [Hx]; · iexact Hx
    isplitl [Hw]; · unfold wPts; iexact Hw
    iexact Ho
  iintro ⟨HΦ, ⟨%W', HO⟩, Hx, Hw, Ho⟩
  unfold bodyPost Dat.owesAt Pipeline.owesWithin
  rw [show (dats m 0 d).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    unfold wPts; iexact Hw
  iexists _; isplitr; · (ipureintro; rfl)
  iexact Ho

set_option maxRecDepth 100000 in
theorem body_obligation (d : Dev nD) : BodyObligation (dats (F := F) m 0 d) (defs₀ (F := F)) 𝒱₀ () Set.univ := fun t => by
  rw [fin_N0 t]
  rw [bigSep_W0, bigSep_W0]
  simp only [owns_whole_eq]
  show bodyPre m d ⊢ wpT d (cc0_body (F := F) xM (Memref.isWhole_whole _) wM (Memref.isWhole_whole _) oM (Memref.isWhole_whole _)
    aM (Memref.isWhole_whole _) rM (Memref.isWhole_whole _) cc0_scratch2 cc0_scratch3) (fun _ => bodyPost m d)
  rw [body_eq]
  exact sound_body m d

/-! ## Dealing the ghost state -/

theorem stage_num (w : Fin cfg0.W) (q : Fin (cfg0.win w).nbuf) : ((cfg0.win w).sem q).val < 3 := by
  fin_cases w <;> fin_cases q <;> decide

theorem ownSemFacts : Pipeline.OwnSemFacts cfg0.spec osem where
  isScoped := by decide
  inj := osem_inj
  disj := fun k w q h => absurd (congrArg semNum h) (by
    rw [osem_num, show semNum (.dma ((cfg0.win w).sem q)) = ((cfg0.win w).sem q).val from rfl]
    have := stage_num w q
    omega)

theorem share_eq (d : Dev nD) (w : Fin cfg0.W) : (dats m 0 d).share w = fullShare := by unfold Dat.share; split <;> rfl

theorem kcell_inj : Function.Injective (kcell : Dev nD × Key → GSem nD τ sig) := by
  rintro ⟨d, k⟩ ⟨d', k'⟩ h
  have h1 : d = d' := congrArg (fun g : GSem nD τ sig => g.1.1) h
  have h2 : k = k' := csem_inj (congrArg Prod.snd h)
  rw [h1, h2]

def allCells : Finset (GSem nD τ sig) := Finset.univ.map ⟨kcell, kcell_inj⟩

/-- The duties of a device's own cells: the barrier's four, and one at each end of each transfer. -/
abbrev Duty : Type := Fin 4 ⊕ (Bool × Fin 4 × Fin 8)
def tokOf (p : Dev nD × Duty) : GSem nD τ sig × ℕ × Fin 4 := match p.2 with
  | .inl j => (barCell p.1, 0, j)
  | .inr k => (kcell (p.1, .inr k), 0, 0)

theorem tokOf_inj : Function.Injective tokOf := by
  rintro ⟨d, t⟩ ⟨d', t'⟩ h
  have hc := congrArg (fun x : GSem nD τ sig × ℕ × Fin 4 => x.1) h
  have hj := congrArg (fun x : GSem nD τ sig × ℕ × Fin 4 => x.2.2) h
  rcases t with j | k <;> rcases t' with j' | k' <;> dsimp only [tokOf] at hc hj
  · have e := kcell_inj (a₁ := (d, .inl ())) (a₂ := (d', .inl ())) hc
    rw [(Prod.mk.inj e).1, hj]
  · exact absurd (kcell_inj (a₁ := (d, .inl ())) (a₂ := (d', .inr k')) hc) (by simp)
  · exact absurd (kcell_inj (a₁ := (d, .inr k)) (a₂ := (d', .inl ())) hc) (by simp)
  · have e := kcell_inj hc
    rw [(Prod.mk.inj e).1, Sum.inr.inj (Prod.mk.inj e).2]

def allToks : Finset (GSem nD τ sig × ℕ × Fin 4) := Finset.univ.map ⟨tokOf, tokOf_inj⟩

def u₀ : UU :=
  (initOf (Pipeline.cells cfgs cellOf_inj) (Pipeline.launchToks cfgs cellOf_inj), initOf allCells allToks)

/-- The duty tokens of device `d`'s own cells. -/
def toks (d : Dev nD) : sProp 𝕄 :=
  iprop((bigSep Finset.univ fun j => dutyTok ER (barCell d) 0 j)
    ∗ bigSep Finset.univ fun k : Bool × Fin 4 × Fin 8 => dutyTok ER (kcell (d, .inr k)) 0 0)

def G (d : Dev nD) : sProp 𝕄 :=
  iprop((bigSep Finset.univ fun k : Key => roundState ER (Rd m) (kcell (d, k)) 0)
    ∗ (bigSep Finset.univ fun k : Key => iprop(atPos ER (kcell (d, k)) 0 ∅ 0 ∗ reached ER (kcell (d, k)) 0)) ∗ toks d)

def G' (d : Dev nD) : sProp 𝕄 := iprop(∃ K, ghost m K d)

theorem fund_all : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Key => Φ (kcell (d, k)) := by
    unfold allCells; rw [bigSep_map, bigSep_univ_prod]; rfl
  have hT : bigSep allToks (fun x => (dutyTok ER x.1 x.2.1 x.2.2 : sProp 𝕄)) = bigSep Finset.univ fun d : Dev nD => toks d := by
    unfold allToks; rw [bigSep_map, bigSep_univ_prod]
    exact bigSep_congr fun d _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (d : Dev nD) : (unscopedSems0 d : sProp 𝕄) = semVal (barCell d) 0 := by
  unfold unscopedSems0; rw [bigSep_eq_bigSepL_of_eq [SemLoc.reg barS] (by decide) (by decide)]; rfl

/-- The launch's semaphores, counted by key. -/
theorem sems_eq (d : Dev nD) :
    (bigSep Finset.univ fun k : Key => semVal (kcell (d, k)) 0 : sProp 𝕄)
      = iprop(unscopedSems0 d ∗ Pipeline.ownSems0 (Ix := Unit) (Name := ℕ) (U := UU) (Lvl := ℕ) (Val := Elt F) (τ := τ) osem d) := by
  rw [bigSep_univ_sum, bigSep_univ_of_subsingleton (), unscopedSems0_eq]; rfl

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k => iprop(∃ κ : ℕ, cellInv ER (Rd m) κ (kcell (d, k))))
          ∗ (bigSep Finset.univ fun k => iprop(atPos ER (kcell (d, k)) 0 ∅ 0 ∗ reached ER (kcell (d, k)) 0)) ∗ toks d) := by
  unfold G
  iintro ⟨Hos, Hus, Hst, Hat, Htok⟩
  ihave Hv := (Entails.of_eq (sems_eq (F := F) d).symm) $$ [Hos Hus]
  · isplitl [Hus] <;> iassumption
  imod (show iprop((bigSep Finset.univ fun k : Key => semVal (kcell (d, k)) 0) ∗ bigSep Finset.univ fun k : Key => roundState ER (Rd m) (kcell (d, k)) 0)
      ⊢ (|={Set.univ}=> bigSep Finset.univ fun k => iprop(∃ κ : ℕ, cellInv ER (Rd m) κ (kcell (d, k))) : sProp 𝕄) from by
        rw [← bigSep_sep']
        exact (bigSep_mono fun k _ => (Rounds.body_intro ER (Rd m) (kcell (d, k))).trans inv_alloc).trans (bigSep_fupd _ _)) $$ [Hv Hst] with Hinv
  · isplitl [Hv] <;> iassumption
  imodintro
  isplitl [Hinv]; · iexact Hinv
  isplitl [Hat]; · iexact Hat
  iexact Htok

/-- A product over both ends of every transfer. -/
theorem both_ends (Φ : Bool × Fin 4 × Fin 8 → sProp 𝕄) :
    bigSep Finset.univ Φ = iprop((bigSep Finset.univ fun s => bigSep Finset.univ fun c => Φ (false, s, c))
      ∗ bigSep Finset.univ fun s => bigSep Finset.univ fun c => Φ (true, s, c)) := by
  rw [bigSep_univ_prod, bigSep_univ_eq_bigSepL [false, true] (by decide) (by decide), bigSepL_cons_cons, bigSepL_singleton,
    bigSep_univ_prod, bigSep_univ_prod]
  rfl

/-- Something of each device handed, for each index, to the partner that index names. -/
theorem deal {I : Type} [Fintype I] (e : I → Fin 4) (Φ : Dev nD → I → sProp 𝕄) :
    (bigSep Finset.univ fun d => bigSep Finset.univ fun i => Φ d i) = bigSep Finset.univ fun d => bigSep Finset.univ fun i => Φ (pd (e i) d) i := by
  rw [bigSep_univ_comm, bigSep_univ_comm (fun d i => Φ (pd (e i) d) i)]
  exact bigSep_congr fun i _ => bigSep_univ_equiv (pdE (e i)) fun d => Φ d i

/-- The tokens a device pays with. -/
def payToks (d : Dev nD) : sProp 𝕄 :=
  iprop((bigSep Finset.univ fun j => dutyTok ER (barCell (pd j d)) 0 j)
    ∗ (bigSep Finset.univ fun s => bigSep Finset.univ fun c => dutyTok ER (sendCell d s c) 0 0)
    ∗ bigSep Finset.univ fun s => bigSep Finset.univ fun c => dutyTok ER (recvCell (pd (jOf s c) d) s c) 0 0)

theorem toks_around : (bigSep Finset.univ fun d : Dev nD => (toks d : sProp 𝕄)) = bigSep Finset.univ fun d : Dev nD => payToks d := by
  unfold toks payToks
  simp only [both_ends]
  rw [bigSep_sep', bigSep_sep', bigSep_sep', bigSep_sep', deal (fun j => j) (fun d j => dutyTok ER (barCell d) 0 j)]
  congr 2
  have h := deal (I := Fin 4 × Fin 8) (fun p => jOf p.1 p.2) (fun d p => (dutyTok ER (recvCell d p.1 p.2) 0 0 : sProp 𝕄))
  simp only [bigSep_univ_prod] at h
  exact h

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Key → ℕ) (d : Dev nD) :
    iprop(recs m K ∗ (bigSep Finset.univ fun k : Key => atPos ER (kcell (d, k)) 0 ∅ 0) ∗ payToks d) ⊢ G' m d := by
  rw [bigSep_univ_sum, bigSep_univ_of_subsingleton (), both_ends]
  show iprop(_ ∗ ((_ ∗ (_ ∗ _)) ∗ _)) ⊢ _
  unfold payToks G' ghost
  simp only [bigSep_sep']
  iintro ⟨#HR, ⟨HaB, HaS, HaV⟩, HtB, HtS, HtV⟩
  iexists K
  isplitr; · iexact HR
  isplitl [HaB]; · iexact HaB
  isplitl [HtB]; · iexact HtB
  isplitl [HaS]; · iexact HaS
  isplitl [HaV]; · iexact HaV
  isplitl [HtS] <;> iassumption

theorem regroup :
    (bigSep Finset.univ fun d : Dev nD => iprop((bigSep Finset.univ fun k => iprop(∃ κ : ℕ, cellInv ER (Rd m) κ (kcell (d, k))))
          ∗ (bigSep Finset.univ fun k => iprop(atPos ER (kcell (d, k)) 0 ∅ 0 ∗ reached ER (kcell (d, k)) 0)) ∗ toks d) : sProp 𝕄)
      ⊢ bigSep Finset.univ (G' m) := by
  rw [bigSep_sep', bigSep_sep', ← bigSep_univ_prod (fun p : Dev nD × Key => iprop(∃ κ : ℕ, cellInv ER (Rd m) κ (kcell p))),
    bigSep_congr (s := Finset.univ) (fun (d : Dev nD) _ => bigSep_sep' Finset.univ (fun k : Key => (atPos ER (kcell (d, k)) 0 ∅ 0 : sProp 𝕄)) (fun k => reached ER (kcell (d, k)) 0)),
    bigSep_sep', ← bigSep_univ_prod (fun p : Dev nD × Key => (reached ER (kcell p) 0 : sProp 𝕄)), toks_around]
  iintro ⟨HI, ⟨Hat, #HR⟩, Htok⟩
  ihave HK := (BI.bigSep_exists_pi Finset.univ (fun (p : Dev nD × Key) (κ : ℕ) => (cellInv ER (Rd m) κ (kcell p) : sProp 𝕄))) $$ HI
  icases HK with ⟨%K, #HI⟩
  iapply (with_persistent (R := recs m K) fun d _ => ghost_intro m K d)
  isplitr
  · unfold recs; isplitl; · iexact HI
    iexact HR
  · rw [bigSep_sep']
    isplitl [Hat] <;> iassumption

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The launch credit -/

abbrev O₀ (d : Dev nD) : CellTallies nD τ sig Unit := oweBar d 4

theorem key_tally (d d' : Dev nD) (k k' : Key) (n : ℕ) :
    (tallyAt (kcell (d, k)) () n : CellTallies nD τ sig Unit) (kcell (d', k')) () = if d' = d ∧ k' = k then n else 0 := by
  rw [tallyAt_apply]
  by_cases h : d' = d ∧ k' = k
  · rw [if_pos h, if_pos ⟨by rw [h.1, h.2], rfl⟩]
  · rw [if_neg h, if_neg fun e => h (Prod.mk.inj (kcell_inj e.1))]

/-- Every device pays one partner at a time, so over all devices each cell is paid once. -/
theorem sum_tally (e : Fin 4) (k₀ k : Key) (n : ℕ) (d' : Dev nD) :
    ∑ d : Dev nD, (tallyAt (kcell (pd e d, k₀)) () n : CellTallies nD τ sig Unit) (kcell (d', k)) () = if k = k₀ then n else 0 := by
  rw [Fintype.sum_equiv (pdE e) _ (fun d => if d' = d ∧ k = k₀ then n else 0) fun d => key_tally (pd e d) d' k₀ k n]
  by_cases h : k = k₀
  · simp [h]
  · simp [h]

theorem sum_owe_bar (d' : Dev nD) : ∀ n, ∑ d : Dev nD, owe d n (barCell d') () = 0
  | 0 => Finset.sum_eq_zero fun _ _ => rfl
  | n + 1 => by
      have h := sum_tally (jOf (sOf (32 - (n + 1))) (cOf (32 - (n + 1)))) (.inr (true, sOf (32 - (n + 1)), cOf (32 - (n + 1)))) (.inl ()) N d'
      rw [if_neg (by simp)] at h
      simp only [owe, Pi.add_apply, Finsupp.add_apply]
      rw [Finset.sum_add_distrib, sum_owe_bar d' n, Nat.zero_add]
      exact h

theorem sum_owe_recv (d' : Dev nD) (s : Fin 4) (c : Fin 8) :
    ∀ n, n ≤ 32 → ∑ d : Dev nD, owe d n (recvCell d' s c) () = if 32 ≤ 8 * s.val + c.val + n then N else 0
  | 0, _ => by rw [if_neg (by omega)]; exact Finset.sum_eq_zero fun _ _ => rfl
  | n + 1, hn => by
      have h := sum_tally (jOf (sOf (32 - (n + 1))) (cOf (32 - (n + 1)))) (.inr (true, sOf (32 - (n + 1)), cOf (32 - (n + 1)))) (.inr (true, s, c)) N d'
      have e : ((.inr (true, s, c) : Key) = .inr (true, sOf (32 - (n + 1)), cOf (32 - (n + 1)))) ↔ 8 * s.val + c.val + n = 31 := by
        simp only [Sum.inr.injEq, Prod.mk.injEq, true_and, Fin.ext_iff, sOf, cOf]
        omega
      simp only [owe, Pi.add_apply, Finsupp.add_apply]
      rw [Finset.sum_add_distrib, sum_owe_recv d' s c n (by omega)]
      refine (congrArg _ h).trans ?_
      by_cases h1 : 8 * s.val + c.val + n = 31
      · rw [if_pos (e.mpr h1), if_neg (by omega), if_pos (by omega), Nat.zero_add]
      · rw [if_neg fun x => h1 (e.mp x), Nat.add_zero]
        exact if_congr (by omega) rfl rfl

theorem sum_bar (d' : Dev nD) : ∀ k, ∑ d : Dev nD, oweBar d k (barCell d') () = k
  | 0 => sum_owe_bar d' 32
  | k + 1 => by
      have h := sum_tally (jN (4 - (k + 1)) 0) (.inl ()) (.inl ()) 1 d'
      rw [if_pos rfl] at h
      simp only [oweBar, Pi.add_apply, Finsupp.add_apply]
      rw [Finset.sum_add_distrib, sum_bar d' k]
      exact congrArg _ h

theorem sum_recv (d' : Dev nD) (s : Fin 4) (c : Fin 8) : ∀ k, ∑ d : Dev nD, oweBar d k (recvCell d' s c) () = N
  | 0 => (sum_owe_recv d' s c 32 le_rfl).trans (if_pos (by omega))
  | k + 1 => by
      have h := sum_tally (jN (4 - (k + 1)) 0) (.inl ()) (.inr (true, s, c)) 1 d'
      rw [if_neg (by simp)] at h
      simp only [oweBar, Pi.add_apply, Finsupp.add_apply]
      rw [Finset.sum_add_distrib, sum_recv d' s c k]
      exact congrArg _ h

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (d : Dev nD) : (Pipeline.launchCred O₀ d : sProp 𝕄) ⊢ credits d := by
  unfold Pipeline.launchCred credits
  refine (bigSep_subset (Finset.subset_univ (Finset.univ.map ⟨csem, csem_inj⟩))).trans ?_
  rw [bigSep_map, bigSep_univ_sum, bigSep_univ_of_subsingleton (), both_ends]
  refine sep_mono (Entails.of_eq (congrArg cred (launch_at _ 4 (sum_bar d 4)))) (sep_elim_right.trans ?_)
  exact bigSep_mono fun s _ => bigSep_mono fun c _ => Entails.of_eq (congrArg cred (launch_at _ N (sum_recv d s c 4)))

/-! ## The launch's side conditions -/

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  iintro ⟨-, Hlev, Hcr, -, HG⟩
  ihave Hc := (creds (F := F) d) $$ Hcr
  imodintro
  unfold start G'
  isplitl
  · isplitl [HG]; · iexact HG
    isplitl [Hc] <;> iassumption
  · iempintro

theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀ scratch
  iintro ⟨Hs, -, Hr⟩
  isplitl [Hs]; · iexact Hs
  iexact Hr

theorem phi1_exit (d : Dev nD) :
    (dats m 0 d).Φ (Fin.last cfg0.N) ⊢ iprop(unscopedSems0 d ∗ Pipeline.ownSems0 osem d ∗ Pipeline.scopedRest cfg0.spec d) := by
  rw [show (dats m 0 d).Φ (Fin.last cfg0.N) = Φ₁ d from rfl, scopedRest0_eq, unscopedSems0_eq]
  unfold Φ₁ scratch Pipeline.ownSems0
  rw [both_ends]
  simp only [bigSep_sep']
  iintro ⟨Hr, HzB, HzS, HzV⟩
  isplitl [HzB]; · iexact HzB
  isplitl [HzS HzV]
  · isplitl [HzS]; · iexact HzS
    iexact HzV
  iexact Hr

theorem waits (d : Dev nD) : (levAts L lv : sProp 𝕄) ⊢ Pipeline.cellsWaits cfgs (dats m) () 0 d :=
  Pipeline.cellsWaits_intro cfgs (dats m) () 0 d fun w q t =>
    mayWait_stage d _ (fun k h => by
      rcases k with _ | k
      · cases h
      · exact ownSemFacts.disj k w q h) _ (by
      rcases t with ⟨_ | _, ht⟩
      · exact Or.inl rfl
      · exact Or.inr rfl)

/-! ## The run -/

def finalA (d : Dev nD) (w : Fin cfg0.W) : Buf (Elt F) ((cfg0.win w).arr.view.loc (d : Thread nD τ)) := (dats m 0 d).arrAt w cfg0.N

def QC : PUnit × MemSt nD τ sig (Elt F) → Prop := fun r =>
  ∀ d : Dev nD, ∀ w : Fin cfg0.W, r.2.mem ((cfg0.win w).arr.view.loc (d : Thread nD τ)) = finalA m d w

set_option maxRecDepth 100000 in
/-- Over any float values, from any memory with its counters at zero: every weakly fair execution of the sixteen kernels
    terminates, and then each device's arrays hold what `finalA` says and every counter is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun d => unscopedSems0 d) (Z := fun _ => iprop(emp))
    (hX := start_intro m ρ) (hin := phi0_intro m) (hout := phi1_exit m)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

/-- The arrays read by the kernel hold what they held. -/
theorem finalA_x (d : Dev nD) : finalA m d (0 : Fin 3) = m (win0_0.arr.view.loc (d : Thread nD τ)) := (dats (F := F) m 0 d).arrAt_in (0 : Fin 3) rfl _
theorem finalA_w (d : Dev nD) : finalA m d (1 : Fin 3) = m (win0_1.arr.view.loc (d : Thread nD τ)) := (dats (F := F) m 0 d).arrAt_in (1 : Fin 3) rfl _

end Cert.Hyper
-- ==== Proof.Value.lean ====
/- The value, at exact arithmetic: the hypercube's running sums are the sum over all sixteen devices, and the kernel's
   eight products are the reference's one product of that sum. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pointwise.Reshape
public import Idealize.ShloMosaic.Lib.Pointwise.Reduce
public import Idealize.ShloMosaic.Lib.Layout

@[expose] public section

noncomputable section

namespace Cert.Hyper

open Cert.KernelIdeal Cert.KernelIdeal.Gen
open Idealize.ShloMosaic
open Idealize.ShloMosaic.TcCoe
open Idealize.SL.Sem

open scoped BigOperators

section Contents

variable {F : FTy → Type} [FloatOps F] (m : (ℓ : Loc nD τ sig) → Buf (Elt F) ℓ)

/-! ## The arrays the windows stage are staged whole -/

theorem xstg_eq (d : Dev nD) : xstg m d = m ((d : Thread nD τ).loc main_arg0) :=
  Memref.read_access_unit_zero (Elt F) main_arg0 (funext fun a => by fin_cases a <;> decide) (fun a => by fin_cases a <;> decide) _

theorem wstg_eq (d : Dev nD) : wstg m d = m ((d : Thread nD τ).loc main_arg1) :=
  Memref.read_access_unit_zero (Elt F) main_arg1 (funext fun a => by fin_cases a <;> decide) (fun a => by fin_cases a <;> decide) _

/-- The result array ends holding what the body left staged. -/
theorem finalA_o (d : Dev nD) : finalA m d (2 : Fin 3) = O m d := by
  have h : (win0_2.blk (0 : Fin 1)).view.read (Elt F) (finalA m d (2 : Fin 3)) = O m d := by
    unfold finalA
    rw [show cfg0.N = ((0 : Fin 1) : Fin cfg0.N).val + 1 from rfl, (dats m 0 d).arrAt_succ (2 : Fin 3) (0 : Fin 1)]
    rw [show (cfg0.win (2 : Fin 3)).flush (0 : Fin 1) = true from flush0_2 _, if_pos rfl]
    exact View.read_write_univ _ _
  refine Eq.trans ?_ h
  exact (Memref.read_access_unit_zero (Elt F) main_v1 (funext fun a => by fin_cases a <;> decide) (fun a => by fin_cases a <;> decide) _).symm

end Contents

/-! ## The devices a running sum has met -/

/-- The devices whose rows are in device `d`'s running sum before step `s`, for the rows of chunk `q`. -/
def met (q : ℕ) : ℕ → Dev nD → Finset (Dev nD)
  | 0, d => {d}
  | s + 1, d => met q s d ∪ met q s (pd (jN s q) d)

theorem met_disjoint : ∀ (q : Fin 8) (s : Fin 4) (d : Dev nD), Disjoint (met q.val s.val d) (met q.val s.val (pd (jN s.val q.val) d)) := by
  decide +kernel

theorem met_all : ∀ (q : Fin 8) (d : Dev nD), met q.val 4 d = Finset.univ := by decide +kernel

variable (m : (ℓ : Loc nD τ sig) → Buf (Elt Ideal) ℓ)

/-- An entry of device `d`'s block, as a number. -/
def entry (d : Dev nD) (ix : S512x256.Idx) : EReal := m ((d : Thread nD τ).loc main_arg0) ix

theorem A_met (q : Fin 8) (ix : S512x256.Idx) (h : (ix 0).val / 64 = q.val) :
    ∀ s ≤ 4, ∀ d, A m s d ix = ∑ e ∈ met q.val s d, entry m e ix
  | 0, _, d => by
      show xstg m d ix = ∑ e ∈ {d}, entry m e ix
      rw [xstg_eq, Finset.sum_singleton]; rfl
  | s + 1, hs, d => by
      show A m s d ix + A m s (pd (jN s ((ix 0).val / 64)) d) ix = ∑ e ∈ met q.val s d ∪ met q.val s (pd (jN s q.val) d), entry m e ix
      rw [Finset.sum_union (met_disjoint q ⟨s, by omega⟩ d), h, A_met q ix h s (by omega) d, A_met q ix h s (by omega)]

theorem A_sum (d : Dev nD) (ix : S512x256.Idx) : A m 4 d ix = ∑ e : Dev nD, entry m e ix := by
  have hq : (ix 0).val / 64 < 8 := Nat.div_lt_of_lt_mul (ix 0).isLt
  rw [A_met m ⟨_, hq⟩ ix rfl 4 le_rfl d, met_all]

/-- What every device writes, entry by entry. -/
theorem O_apply (d : Dev nD) (r : Fin 512) (c : Fin 256) :
    O m d (ValueIdx.ix2 r c)
      = ∑ k : Fin 256, (∑ e : Dev nD, entry m e (ValueIdx.ix2 r k))
          * (m ((d : Thread nD τ).loc main_arg1) : S256x256.Idx → EReal) (ValueIdx.ix2 k c) := by
  have hr : r.val / 64 < 8 := by omega
  have hs : r.val % 64 < 64 := by omega
  show FloatOps.matmul (F := Ideal) (DotDims.plain 64 256 256) none (rowsOf ⟨r.val / 64, hr⟩ (A m 4 d))
    (shapeCast S256x256 (wstg m d) _) (constant S64x256 .f32 0#32) (ValueIdx.ix2 (n0 := 64) (n1 := 256) ⟨r.val % 64, hs⟩ c) = _
  rw [Ideal.matmul_plain_apply, shapeCast_id, wstg_eq]
  show Ideal.ofBits .f32 0x00000000#32 + _ = _
  rw [Ideal.ofBits_zero_f32, zero_add]
  refine Finset.sum_congr rfl fun k _ => ?_
  rw [← A_sum m d]
  refine congrArg (· * _) ?_
  show A m 4 d ((rowR ⟨r.val / 64, hr⟩).emb (ValueIdx.ix2 ⟨r.val % 64, hs⟩ k)) = _
  rw [row_emb]
  refine congrArg (fun x => A m 4 d (ValueIdx.ix2 x k)) ?_
  exact Fin.ext (Nat.div_add_mod r.val 64)

/-! ## The reference's value -/

/-- The reference's composed result, of its two arguments. -/
def refOut (t : Vec Ideal ReferenceIdeal.S8192x256 .f32) (w : Vec Ideal ReferenceIdeal.S256x256 .f32) : Vec Ideal ReferenceIdeal.S512x256 .f32 :=
  Host.dotGeneral (F := Ideal) (φ₁ := .f32) (φ₂ := .f32) (DotDims.plain 512 256 256) none
    (Host.reduceAdd (F := Ideal) (φ := .f32) (shapeCast ReferenceIdeal.S16x512x256 t ReferenceIdeal.Gen.facts.shapeCasts_S8192x256_S16x512x256)
      (constant ReferenceIdeal.S_ .f32 0x00000000#32)
      ReferenceIdeal.Gen.facts.reducesTo_S16x512x256_S512x256_d0 ReferenceIdeal.Gen.facts.h_S_) w

/-- The reference's three-axis view of its rows: device, row, column. -/
theorem stacked (t : Vec Ideal ReferenceIdeal.S8192x256 .f32) (h) (e : Fin 16) (r : Fin 512) (k : Fin 256) :
    shapeCast ReferenceIdeal.S16x512x256 t h (Idealize.ShloMosaic.ix3 e r k)
      = t (ValueIdx.ix2 (n0 := 8192) (n1 := 256) ⟨e.val * 512 + r.val, by omega⟩ k) := by
  rw [Pointwise.shapeCast_apply]
  refine congrArg t (Shape.reshapeEquiv_eq_of_vals h _ _ _ _ (rowMajor_val2 _ 256 rfl) (rowMajor_val3 _ 131072 256 rfl rfl) ?_)
  show (e.val * 512 + r.val) * 256 + k.val = e.val * 131072 + r.val * 256 + k.val
  omega

theorem refOut_apply (t : Vec Ideal ReferenceIdeal.S8192x256 .f32) (w : Vec Ideal ReferenceIdeal.S256x256 .f32) (r : Fin 512) (c : Fin 256) :
    refOut t w (ValueIdx.ix2 r c)
      = ∑ k : Fin 256, (∑ e : Fin 16, (t : ReferenceIdeal.S8192x256.Idx → EReal) (ValueIdx.ix2 (n0 := 8192) (n1 := 256) ⟨e.val * 512 + r.val, by omega⟩ k))
          * (w : ReferenceIdeal.S256x256.Idx → EReal) (ValueIdx.ix2 k c) := by
  unfold refOut
  rw [StackMember.dotGeneral_plain_apply]
  refine Finset.sum_congr rfl fun k _ => congrArg (· * _) ?_
  rw [Host.reduceAdd_apply, Ideal.hostReduceAdd_def, Ideal.hostReduceAdd_r3_a0]
  show Ideal.ofBits .f32 0x00000000#32 + _ = _
  rw [Ideal.ofBits_zero_f32, zero_add]
  exact Finset.sum_congr rfl fun e _ => stacked t _ e r k

/-- Where the devices' blocks are the reference's rows, what every device writes is the reference's result. -/
theorem O_eq (t : Vec Ideal ReferenceIdeal.S8192x256 .f32) (w : Vec Ideal ReferenceIdeal.S256x256 .f32)
    (ht : ∀ e : Dev nD, m ((e : Thread nD τ).loc main_arg0) = Layout.block ⟨2, ![512, 256]⟩ ⟨2, ![8192, 256]⟩ 0 16 e t)
    (hw : ∀ e : Dev nD, m ((e : Thread nD τ).loc main_arg1) = w) (d : Dev nD) : O m d = refOut t w := by
  funext ix
  rw [ValueIdx.eq_ix2 ix]
  refine (O_apply m d (ix 0) (ix 1)).trans (Eq.trans ?_ (refOut_apply t w (ix 0) (ix 1)).symm)
  refine Finset.sum_congr rfl fun k _ => ?_
  rw [hw d]
  refine congrArg (· * _) (Finset.sum_congr rfl fun e _ => ?_)
  unfold entry
  rw [ht e]
  refine congrArg t (funext fun a => Fin.ext ?_)
  match a with
  | ⟨0, _⟩ => rfl
  | ⟨1, _⟩ => rfl

end Cert.Hyper
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

section Same

attribute [local instance] Cert.Kernel.Gen.facts

variable {F : FTy → Type} [FloatOps F]

set_option maxRecDepth 100000 in
/-- Both printed texts of the kernel are one program over any float values: their bodies, -/
theorem defs₀_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => exact rfl

/-- and with them their tables of bodies. -/
theorem defs_same : Cert.Kernel.defs (F := F) = Cert.KernelIdeal.defs (F := F) := by
  unfold Cert.Kernel.defs Cert.KernelIdeal.defs
  rw [defs₀_same]
  rfl

end Same

/-- The run over any float values, at the machine's own floats. -/
theorem frame_kernel : Cert.quiescent_Kernel := fun m ρ _ => by
  rw [defs_same]
  exact (θ_run Cert.KernelIdeal.defs _ _).mono
    (fun _ h => ⟨fun c => ⟨(h.1 c (0 : Fin 3)).trans (Cert.Hyper.finalA_x m c), (h.1 c (1 : Fin 3)).trans (Cert.Hyper.finalA_w m c)⟩, h.2⟩)
    (Cert.Hyper.run_main (F := Bits) m ρ)

/-- The same at exact arithmetic. -/
theorem frame_kernelIdeal : Cert.quiescent_KernelIdeal := fun m ρ _ =>
  (θ_run Cert.KernelIdeal.defs _ _).mono
    (fun _ h => ⟨fun c => ⟨(h.1 c (0 : Fin 3)).trans (Cert.Hyper.finalA_x m c), (h.1 c (1 : Fin 3)).trans (Cert.Hyper.finalA_w m c)⟩, h.2⟩)
    (Cert.Hyper.run_main (F := Ideal) m ρ)

/-- The reference runs on the host alone, and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device ends with the reference's result: the kernel's run, its result array, and the two values equal. -/
theorem value : Cert.algebraic_KernelIdeal_ReferenceIdeal := fun m ρ m' ρ' _ hm =>
  ⟨Cert.Hyper.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Cert.Hyper.finalA_o m c)).trans
          (Cert.Hyper.O_eq m _ _ (fun e => (hm e).1) (fun e => (hm e).2) c),
        (h.1 c (0 : Fin 3)).trans (Cert.Hyper.finalA_x m c), (h.1 c (1 : Fin 3)).trans (Cert.Hyper.finalA_w m c)⟩)
      (Cert.Hyper.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
